-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x5000x102 : Shape := ⟨3, ![4, 5000, 102]⟩
abbrev S4x5000x20 : Shape := ⟨3, ![4, 5000, 20]⟩
abbrev S4x20x5000 : Shape := ⟨3, ![4, 20, 5000]⟩
abbrev S80x5000 : Shape := ⟨2, ![80, 5000]⟩
abbrev S_ : Shape := ⟨0, ![]⟩
abbrev S80x5120 : Shape := ⟨2, ![80, 5120]⟩
abbrev S4x5000x80 : Shape := ⟨3, ![4, 5000, 80]⟩
abbrev S4x5000x20x4 : Shape := ⟨4, ![4, 5000, 20, 4]⟩
abbrev S4x5000x20x1 : Shape := ⟨4, ![4, 5000, 20, 1]⟩
abbrev S4x5000x1 : Shape := ⟨3, ![4, 5000, 1]⟩
abbrev S4x8x200 : Shape := ⟨3, ![4, 8, 200]⟩
abbrev S80x1 : Shape := ⟨2, ![80, 1]⟩
abbrev S1x1x200 : Shape := ⟨3, ![1, 1, 200]⟩
abbrev S80x8x200 : Shape := ⟨3, ![80, 8, 200]⟩
abbrev S80 : Shape := ⟨1, ![80]⟩
abbrev S80x8 : Shape := ⟨2, ![80, 8]⟩
abbrev S80x8x1 : Shape := ⟨3, ![80, 8, 1]⟩
abbrev S20x200 : Shape := ⟨2, ![20, 200]⟩
abbrev S1x200 : Shape := ⟨2, ![1, 200]⟩
abbrev S20x8x200 : Shape := ⟨3, ![20, 8, 200]⟩
abbrev S20x1x200 : Shape := ⟨3, ![20, 1, 200]⟩
abbrev S8x200 : Shape := ⟨2, ![8, 200]⟩
abbrev S20 : Shape := ⟨1, ![20]⟩
abbrev S20x1 : Shape := ⟨2, ![20, 1]⟩
abbrev S1 : Shape := ⟨1, ![1]⟩
abbrev S1x1 : Shape := ⟨2, ![1, 1]⟩
abbrev S8 : Shape := ⟨1, ![8]⟩
abbrev S8x1 : Shape := ⟨2, ![8, 1]⟩
abbrev S1x8x200 : Shape := ⟨3, ![1, 8, 200]⟩
abbrev S4x200x8 : Shape := ⟨3, ![4, 200, 8]⟩
abbrev S4x200x7 : Shape := ⟨3, ![4, 200, 7]⟩

abbrev nBuf : Space → Nat
  | .hbm => 47
  | .vmem => 7
  | .smem => 0
  | _ => 0

abbrev bufTy : (tb : Table) → Fin (tcTables nBuf tb) → BufTy
  | .hbm, ⟨0, _⟩ => ⟨S4x5000x102, .f32⟩
  | .hbm, ⟨1, _⟩ => ⟨S4x5000x20, .f32⟩
  | .hbm, ⟨2, _⟩ => ⟨S4x20x5000, .f32⟩
  | .hbm, ⟨3, _⟩ => ⟨S80x5000, .f32⟩
  | .hbm, ⟨4, _⟩ => ⟨S_, .i32⟩
  | .hbm, ⟨5, _⟩ => ⟨S_, .f32⟩
  | .hbm, ⟨6, _⟩ => ⟨S80x5120, .f32⟩
  | .hbm, ⟨7, _⟩ => ⟨S4x5000x80, .f32⟩
  | .hbm, ⟨8, _⟩ => ⟨S4x5000x20x4, .f32⟩
  | .hbm, ⟨9, _⟩ => ⟨S4x5000x20x1, .f32⟩
  | .hbm, ⟨10, _⟩ => ⟨S4x5000x20, .f32⟩
  | .hbm, ⟨11, _⟩ => ⟨S4x20x5000, .f32⟩
  | .hbm, ⟨12, _⟩ => ⟨S80x5000, .f32⟩
  | .hbm, ⟨13, _⟩ => ⟨S_, .i32⟩
  | .hbm, ⟨14, _⟩ => ⟨S_, .f32⟩
  | .hbm, ⟨15, _⟩ => ⟨S80x5120, .f32⟩
  | .hbm, ⟨16, _⟩ => ⟨S4x5000x20x1, .f32⟩
  | .hbm, ⟨17, _⟩ => ⟨S4x5000x20, .f32⟩
  | .hbm, ⟨18, _⟩ => ⟨S4x20x5000, .f32⟩
  | .hbm, ⟨19, _⟩ => ⟨S80x5000, .f32⟩
  | .hbm, ⟨20, _⟩ => ⟨S_, .i32⟩
  | .hbm, ⟨21, _⟩ => ⟨S_, .f32⟩
  | .hbm, ⟨22, _⟩ => ⟨S80x5120, .f32⟩
  | .hbm, ⟨23, _⟩ => ⟨S4x5000x20x1, .f32⟩
  | .hbm, ⟨24, _⟩ => ⟨S4x5000x20, .f32⟩
  | .hbm, ⟨25, _⟩ => ⟨S4x20x5000, .f32⟩
  | .hbm, ⟨26, _⟩ => ⟨S80x5000, .f32⟩
  | .hbm, ⟨27, _⟩ => ⟨S_, .i32⟩
  | .hbm, ⟨28, _⟩ => ⟨S_, .f32⟩
  | .hbm, ⟨29, _⟩ => ⟨S80x5120, .f32⟩
  | .hbm, ⟨30, _⟩ => ⟨S4x5000x20x1, .f32⟩
  | .hbm, ⟨31, _⟩ => ⟨S4x5000x20, .f32⟩
  | .hbm, ⟨32, _⟩ => ⟨S4x20x5000, .f32⟩
  | .hbm, ⟨33, _⟩ => ⟨S80x5000, .f32⟩
  | .hbm, ⟨34, _⟩ => ⟨S_, .i32⟩
  | .hbm, ⟨35, _⟩ => ⟨S_, .f32⟩
  | .hbm, ⟨36, _⟩ => ⟨S80x5120, .f32⟩
  | .hbm, ⟨37, _⟩ => ⟨S4x5000x1, .f32⟩
  | .hbm, ⟨38, _⟩ => ⟨S4x5000x20, .f32⟩
  | .hbm, ⟨39, _⟩ => ⟨S4x20x5000, .f32⟩
  | .hbm, ⟨40, _⟩ => ⟨S80x5000, .f32⟩
  | .hbm, ⟨41, _⟩ => ⟨S_, .i32⟩
  | .hbm, ⟨42, _⟩ => ⟨S_, .f32⟩
  | .hbm, ⟨43, _⟩ => ⟨S80x5120, .f32⟩
  | .hbm, ⟨44, _⟩ => ⟨S4x8x200, .f32⟩
  | .hbm, ⟨45, _⟩ => ⟨S4x200x8, .f32⟩
  | .hbm, ⟨46, _⟩ => ⟨S4x200x7, .f32⟩
  | .local _ .vmem, ⟨0, _⟩ => ⟨S80x5120, .f32⟩
  | .local _ .vmem, ⟨1, _⟩ => ⟨S80x5120, .f32⟩
  | .local _ .vmem, ⟨2, _⟩ => ⟨S80x5120, .f32⟩
  | .local _ .vmem, ⟨3, _⟩ => ⟨S80x5120, .f32⟩
  | .local _ .vmem, ⟨4, _⟩ => ⟨S80x5120, .f32⟩
  | .local _ .vmem, ⟨5, _⟩ => ⟨S80x5120, .f32⟩
  | .local _ .vmem, ⟨6, _⟩ => ⟨S4x8x200, .f32⟩
  | _, _ => ⟨S4x5000x102, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_call1_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_call2_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_call3_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_call4_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_call5_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_20 : BitVec 32 := 0#32
  let c200_i32 : BitVec 32 := 200#32
  let v47 : BitVec 32 := Scalar.addi c0_i32_20 c200_i32
  let c1_i32_21 : BitVec 32 := 1#32
  ⟨c0_i32_20, v47, c1_i32_21⟩
@[reducible] def k0_t2_loop : Scf.Loop 32 :=
  let c0_i32_25 : BitVec 32 := 0#32
  let c200_i32_26 : BitVec 32 := 200#32
  let v59 : BitVec 32 := Scalar.addi c0_i32_25 c200_i32_26
  let c1_i32_27 : BitVec 32 := 1#32
  ⟨c0_i32_25, v59, c1_i32_27⟩
@[reducible] def k0_t3_loop : Scf.Loop 32 :=
  let c0_i32_33 : BitVec 32 := 0#32
  let c200_i32_34 : BitVec 32 := 200#32
  let v68 : BitVec 32 := Scalar.addi c0_i32_33 c200_i32_34
  let c1_i32_35 : BitVec 32 := 1#32
  ⟨c0_i32_33, v68, c1_i32_35⟩
@[reducible] def k0_t4_loop : Scf.Loop 32 :=
  let c0_i32_40 : BitVec 32 := 0#32
  let c200_i32_41 : BitVec 32 := 200#32
  let v77 : BitVec 32 := Scalar.addi c0_i32_40 c200_i32_41
  let c1_i32_42 : BitVec 32 := 1#32
  ⟨c0_i32_40, v77, c1_i32_42⟩
@[reducible] def k0_t5_loop : Scf.Loop 32 :=
  let c0_i32_47 : BitVec 32 := 0#32
  let c200_i32_48 : BitVec 32 := 200#32
  let v86 : BitVec 32 := Scalar.addi c0_i32_47 c200_i32_48
  let c1_i32_49 : BitVec 32 := 1#32
  ⟨c0_i32_47, v86, c1_i32_49⟩
abbrev stage0_0 : Fin 1 → Memref sig .tc .vmem S80x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4x5000x102 : Shape := ⟨3, ![4, 5000, 102]⟩
abbrev S4x5000x20 : Shape := ⟨3, ![4, 5000, 20]⟩
abbrev S4x20x5000 : Shape := ⟨3, ![4, 20, 5000]⟩
abbrev S4x5000x80 : Shape := ⟨3, ![4, 5000, 80]⟩
abbrev S4x5000x20x4 : Shape := ⟨4, ![4, 5000, 20, 4]⟩
abbrev S4x20x5000x4 : Shape := ⟨4, ![4, 20, 5000, 4]⟩
abbrev S4x5000x1 : Shape := ⟨3, ![4, 5000, 1]⟩
abbrev S4x5000 : Shape := ⟨2, ![4, 5000]⟩
abbrev S4x1x5000 : Shape := ⟨3, ![4, 1, 5000]⟩
abbrev S20 : Shape := ⟨1, ![20]⟩
abbrev S_ : Shape := ⟨0, ![]⟩
abbrev S1x20x1 : Shape := ⟨3, ![1, 20, 1]⟩
abbrev S4x20x5000x1 : Shape := ⟨4, ![4, 20, 5000, 1]⟩
abbrev S4x20x1x5000 : Shape := ⟨4, ![4, 20, 1, 5000]⟩
abbrev S4x20x5000x5000 : Shape := ⟨4, ![4, 20, 5000, 5000]⟩
abbrev S5000 : Shape := ⟨1, ![5000]⟩
abbrev S1x1x5000 : Shape := ⟨3, ![1, 1, 5000]⟩
abbrev S4x20 : Shape := ⟨2, ![4, 20]⟩
abbrev S4x20x1 : Shape := ⟨3, ![4, 20, 1]⟩
abbrev S4x20x400 : Shape := ⟨3, ![4, 20, 400]⟩
abbrev S4x8000 : Shape := ⟨2, ![4, 8000]⟩
abbrev S4x200 : Shape := ⟨2, ![4, 200]⟩
abbrev S4x200x1 : Shape := ⟨3, ![4, 200, 1]⟩
abbrev S4x200x7 : Shape := ⟨3, ![4, 200, 7]⟩

abbrev nBuf : Space → Nat
  | .hbm => 237
  | .vmem => 0
  | .smem => 0
  | _ => 0

abbrev hbmTy0_0 (i : Nat) : BufTy := match i % 128 with
  | 0 => ⟨S4x5000x102, .f32⟩
  | 1 => ⟨S4x5000x20, .f32⟩
  | 2 => ⟨S4x20x5000, .f32⟩
  | 3 => ⟨S4x5000x80, .f32⟩
  | 4 => ⟨S4x5000x20x4, .f32⟩
  | 5 => ⟨S4x20x5000x4, .f32⟩
  | 6 => ⟨S4x5000x1, .f32⟩
  | 7 => ⟨S4x5000, .f32⟩
  | 8 => ⟨S4x1x5000, .f32⟩
  | 9 => ⟨S4x20x5000, .f32⟩
  | 10 => ⟨S20, .i32⟩
  | 11 => ⟨S_, .i32⟩
  | 12 => ⟨S20, .i32⟩
  | 13 => ⟨S20, .i32⟩
  | 14 => ⟨S20, .f32⟩
  | 15 => ⟨S1x20x1, .f32⟩
  | 16 => ⟨S4x20x5000, .f32⟩
  | 17 => ⟨S4x20x5000x1, .f32⟩
  | 18 => ⟨S4x20x5000, .f32⟩
  | 19 => ⟨S4x20x5000x1, .f32⟩
  | 20 => ⟨S4x20x5000, .f32⟩
  | 21 => ⟨S4x20x5000x1, .f32⟩
  | 22 => ⟨S4x20x5000, .f32⟩
  | 23 => ⟨S4x20x5000x1, .f32⟩
  | 24 => ⟨S4x20x5000, .f32⟩
  | 25 => ⟨S_, .f32⟩
  | 26 => ⟨S4x20x5000, .f32⟩
  | 27 => ⟨S4x20x5000, .i1⟩
  | 28 => ⟨S_, .f32⟩
  | 29 => ⟨S_, .f32⟩
  | 30 => ⟨S4x20x5000, .f32⟩
  | 31 => ⟨S4x20x5000, .f32⟩
  | 32 => ⟨S4x20x5000, .f32⟩
  | 33 => ⟨S4x20x5000, .f32⟩
  | 34 => ⟨S4x20x5000, .f32⟩
  | 35 => ⟨S4x20x5000, .f32⟩
  | 36 => ⟨S4x20x5000, .f32⟩
  | 37 => ⟨S4x20x5000, .f32⟩
  | 38 => ⟨S4x20x5000, .f32⟩
  | 39 => ⟨S4x20x5000, .f32⟩
  | 40 => ⟨S4x20x5000, .f32⟩
  | 41 => ⟨S4x20x5000, .f32⟩
  | 42 => ⟨S_, .f32⟩
  | 43 => ⟨S4x20x5000, .f32⟩
  | 44 => ⟨S4x20x5000, .f32⟩
  | 45 => ⟨S4x20x5000, .f32⟩
  | 46 => ⟨S_, .f32⟩
  | 47 => ⟨S4x20x5000, .f32⟩
  | 48 => ⟨S4x20x5000, .f32⟩
  | 49 => ⟨S4x20x5000, .f32⟩
  | 50 => ⟨S4x20x5000x1, .f32⟩
  | 51 => ⟨S4x20x1x5000, .f32⟩
  | 52 => ⟨S4x20x5000x5000, .f32⟩
  | 53 => ⟨S4x20x5000x5000, .f32⟩
  | 54 => ⟨S4x20x5000x5000, .f32⟩
  | 55 => ⟨S4x20x5000x1, .f32⟩
  | 56 => ⟨S4x20x1x5000, .f32⟩
  | 57 => ⟨S4x20x5000x5000, .f32⟩
  | 58 => ⟨S4x20x5000x5000, .f32⟩
  | 59 => ⟨S4x20x5000x5000, .f32⟩
  | 60 => ⟨S4x20x5000x5000, .f32⟩
  | 61 => ⟨S_, .f32⟩
  | 62 => ⟨S4x20x5000x5000, .f32⟩
  | 63 => ⟨S4x20x5000x5000, .f32⟩
  | 64 => ⟨S4x20x5000x1, .f32⟩
  | 65 => ⟨S4x20x1x5000, .f32⟩
  | 66 => ⟨S4x20x5000x5000, .f32⟩
  | 67 => ⟨S4x20x5000x5000, .f32⟩
  | 68 => ⟨S4x20x5000x5000, .f32⟩
  | 69 => ⟨S4x20x5000x1, .f32⟩
  | 70 => ⟨S4x20x1x5000, .f32⟩
  | 71 => ⟨S4x20x5000x5000, .f32⟩
  | 72 => ⟨S4x20x5000x5000, .f32⟩
  | 73 => ⟨S4x20x5000x5000, .f32⟩
  | 74 => ⟨S4x20x5000x5000, .f32⟩
  | 75 => ⟨S_, .f32⟩
  | 76 => ⟨S4x20x5000x5000, .f32⟩
  | 77 => ⟨S4x20x5000x5000, .f32⟩
  | 78 => ⟨S4x20x5000x5000, .f32⟩
  | 79 => ⟨S4x20x5000x1, .f32⟩
  | 80 => ⟨S4x20x1x5000, .f32⟩
  | 81 => ⟨S4x20x5000x5000, .f32⟩
  | 82 => ⟨S4x20x5000x5000, .f32⟩
  | 83 => ⟨S4x20x5000x5000, .f32⟩
  | 84 => ⟨S4x20x5000x5000, .f32⟩
  | 85 => ⟨S_, .f32⟩
  | 86 => ⟨S4x20x5000x5000, .f32⟩
  | 87 => ⟨S4x20x5000x5000, .i1⟩
  | 88 => ⟨S_, .f32⟩
  | 89 => ⟨S4x20x5000x5000, .f32⟩
  | 90 => ⟨S4x20x5000x5000, .f32⟩
  | 91 => ⟨S4x20x5000x5000, .f32⟩
  | 92 => ⟨S_, .f32⟩
  | 93 => ⟨S_, .f32⟩
  | 94 => ⟨S4x20x5000x5000, .f32⟩
  | 95 => ⟨S4x20x5000x5000, .f32⟩
  | 96 => ⟨S_, .f32⟩
  | 97 => ⟨S4x20x5000, .f32⟩
  | 98 => ⟨S4x20x5000, .i1⟩
  | 99 => ⟨S5000, .i32⟩
  | 100 => ⟨S_, .i1⟩
  | 101 => ⟨S4x20x5000, .i1⟩
  | 102 => ⟨S_, .i32⟩
  | 103 => ⟨S_, .i32⟩
  | 104 => ⟨S4x20x5000x5000, .f32⟩
  | 105 => ⟨S5000, .i32⟩
  | 106 => ⟨S4x20x5000, .i1⟩
  | 107 => ⟨S_, .i32⟩
  | 108 => ⟨S_, .i32⟩
  | 109 => ⟨S4x20x5000, .i1⟩
  | 110 => ⟨S_, .i32⟩
  | 111 => ⟨S_, .i1⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S4x20x1x5000, .f32⟩
  | 124 => ⟨S4x20x5000, .f32⟩
  | 125 => ⟨S_, .f32⟩
  | 126 => ⟨S4x20x5000, .f32⟩
  | 127 => ⟨S4x20x5000, .i1⟩
  | _ => ⟨S4x5000x102, .f32⟩

abbrev hbmTy0_1 (i : Nat) : BufTy := match i % 128 with
  | 0 => ⟨S4x20x5000, .i1⟩
  | 1 => ⟨S_, .i32⟩
  | 2 => ⟨S5000, .i32⟩
  | 3 => ⟨S5000, .i1⟩
  | 4 => ⟨S1x1x5000, .i1⟩
  | 5 => ⟨S4x20x5000, .i1⟩
  | 6 => ⟨S4x20x5000, .i1⟩
  | 7 => ⟨S_, .i1⟩
  | 8 => ⟨S4x20, .i1⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S4x20x1, .i1⟩
  | 18 => ⟨S4x20, .i1⟩
  | 19 => ⟨S4x20, .i1⟩
  | 20 => ⟨S4x20, .i1⟩
  | 21 => ⟨S4x20x1, .i1⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S4x20x5000, .i1⟩
  | 31 => ⟨S_, .i32⟩
  | 32 => ⟨S_, .i32⟩
  | 33 => ⟨S4x20x5000, .i1⟩
  | 34 => ⟨S4x20x5000, .i32⟩
  | 35 => ⟨S_, .f32⟩
  | 36 => ⟨S_, .f32⟩
  | 37 => ⟨S4x20x5000, .f32⟩
  | 38 => ⟨S4x20x5000, .f32⟩
  | 39 => ⟨S_, .f32⟩
  | 40 => ⟨S_, .f32⟩
  | 41 => ⟨S4x20x5000, .f32⟩
  | 42 => ⟨S4x20x5000, .f32⟩
  | 43 => ⟨S_, .f32⟩
  | 44 => ⟨S_, .f32⟩
  | 45 => ⟨S4x20x5000, .f32⟩
  | 46 => ⟨S4x20x5000, .f32⟩
  | 47 => ⟨S_, .f32⟩
  | 48 => ⟨S_, .f32⟩
  | 49 => ⟨S4x20x5000, .f32⟩
  | 50 => ⟨S4x20x5000, .f32⟩
  | 51 => ⟨S_, .f32⟩
  | 52 => ⟨S_, .f32⟩
  | 53 => ⟨S4x20x5000, .f32⟩
  | 54 => ⟨S4x20x5000, .f32⟩
  | 55 => ⟨S_, .f32⟩
  | 56 => ⟨S_, .f32⟩
  | 57 => ⟨S4x20x5000, .f32⟩
  | 58 => ⟨S4x20x5000, .f32⟩
  | 59 => ⟨S_, .f32⟩
  | 60 => ⟨S_, .f32⟩
  | 61 => ⟨S4x20x5000, .f32⟩
  | 62 => ⟨S4x20x5000, .f32⟩
  | 63 => ⟨S4x20x5000, .i32⟩
  | 64 => ⟨S4x20x5000, .f32⟩
  | 65 => ⟨S4x20x5000, .f32⟩
  | 66 => ⟨S4x20x5000, .f32⟩
  | 67 => ⟨S4x20x5000, .f32⟩
  | 68 => ⟨S4x20x5000, .f32⟩
  | 69 => ⟨S4x20x5000, .f32⟩
  | 70 => ⟨S4x20x5000, .f32⟩
  | 71 => ⟨S4x20x400, .f32⟩
  | 72 => ⟨S4x8000, .f32⟩
  | 73 => ⟨S4x20x400, .f32⟩
  | 74 => ⟨S4x8000, .f32⟩
  | 75 => ⟨S4x20x400, .f32⟩
  | 76 => ⟨S4x8000, .f32⟩
  | 77 => ⟨S4x20x400, .f32⟩
  | 78 => ⟨S4x8000, .f32⟩
  | 79 => ⟨S4x20x400, .f32⟩
  | 80 => ⟨S4x8000, .f32⟩
  | 81 => ⟨S4x20x400, .f32⟩
  | 82 => ⟨S4x8000, .f32⟩
  | 83 => ⟨S4x20x400, .f32⟩
  | 84 => ⟨S4x8000, .f32⟩
  | 85 => ⟨S4x8000, .f32⟩
  | 86 => ⟨S4x8000, .f32⟩
  | 87 => ⟨S4x8000, .f32⟩
  | 88 => ⟨S4x8000, .f32⟩
  | 89 => ⟨S4x8000, .f32⟩
  | 90 => ⟨S4x8000, .f32⟩
  | 91 => ⟨S4x8000, .f32⟩
  | 92 => ⟨S4x8000, .f32⟩
  | 93 => ⟨S4x8000, .f32⟩
  | 94 => ⟨S4x200, .f32⟩
  | 95 => ⟨S4x200, .f32⟩
  | 96 => ⟨S4x200, .f32⟩
  | 97 => ⟨S4x200, .f32⟩
  | 98 => ⟨S4x200, .f32⟩
  | 99 => ⟨S4x200, .f32⟩
  | 100 => ⟨S4x200, .f32⟩
  | 101 => ⟨S4x200x1, .f32⟩
  | 102 => ⟨S4x200x1, .f32⟩
  | 103 => ⟨S4x200x1, .f32⟩
  | 104 => ⟨S4x200x1, .f32⟩
  | 105 => ⟨S4x200x1, .f32⟩
  | 106 => ⟨S4x200x1, .f32⟩
  | 107 => ⟨S4x200x1, .f32⟩
  | 108 => ⟨S4x200x7, .f32⟩
  | _ => ⟨S4x5000x102, .f32⟩

abbrev hbmTy (i : Nat) : BufTy := match i / 128 with
  | 0 => hbmTy0_0 i
  | 1 => hbmTy0_1 i
  | _ => ⟨S4x5000x102, .f32⟩

abbrev bufTy : (tb : Table) → Fin (tcTables nBuf tb) → BufTy
  | .hbm, ⟨i, _⟩ => hbmTy i
  | _, _ => ⟨S4x5000x102, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v27_3 : Ref sig .tc := ⟨.hbm, 36, rfl⟩
abbrev main_v27_4 : Ref sig .tc := ⟨.hbm, 37, rfl⟩
abbrev main_v27_5 : Ref sig .tc := ⟨.hbm, 38, rfl⟩
abbrev main_v27_6 : Ref sig .tc := ⟨.hbm, 39, rfl⟩
abbrev main_v27_7 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_5 : Ref sig .tc := ⟨.hbm, 85, rfl⟩
abbrev main_v68 : Ref sig .tc := ⟨.hbm, 86, rfl⟩
abbrev main_v69 : Ref sig .tc := ⟨.hbm, 87, rfl⟩
abbrev main_cst_6 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_7 : Ref sig .tc := ⟨.hbm, 92, rfl⟩
abbrev main_call1_v0 : Ref sig .tc := ⟨.hbm, 93, rfl⟩
abbrev main_call1_v1 : Ref sig .tc := ⟨.hbm, 94, rfl⟩
abbrev main_v73 : Ref sig .tc := ⟨.hbm, 95, rfl⟩
abbrev main_cst_8 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_9 : Ref sig .tc := ⟨.hbm, 100, rfl⟩
abbrev main_v77 : Ref sig .tc := ⟨.hbm, 101, rfl⟩
abbrev main_c_10 : Ref sig .tc := ⟨.hbm, 102, rfl⟩
abbrev main_c_11 : Ref sig .tc := ⟨.hbm, 103, rfl⟩
abbrev main_v78_0 : Ref sig .tc := ⟨.hbm, 104, rfl⟩
abbrev main_v78_1 : Ref sig .tc := ⟨.hbm, 105, rfl⟩
abbrev main_v78_2 : Ref sig .tc := ⟨.hbm, 106, rfl⟩
abbrev main_v78_3 : Ref sig .tc := ⟨.hbm, 107, rfl⟩
abbrev main_v78_4 : Ref sig .tc := ⟨.hbm, 108, rfl⟩
abbrev main_v78_5 : Ref sig .tc := ⟨.hbm, 109, rfl⟩
abbrev main_while0c_c_24 : Ref sig .tc := ⟨.hbm, 110, rfl⟩
abbrev main_while0c_v120 : Ref sig .tc := ⟨.hbm, 111, rfl⟩
abbrev main_while0b_c_24 : Ref sig .tc := ⟨.hbm, 112, rfl⟩
abbrev main_while0b_v120 : Ref sig .tc := ⟨.hbm, 113, rfl⟩
abbrev main_while0b_call2_c : Ref sig .tc := ⟨.hbm, 114, rfl⟩
abbrev main_while0b_call2_v0 : Ref sig .tc := ⟨.hbm, 115, rfl⟩
abbrev main_while0b_call2_v1 : Ref sig .tc := ⟨.hbm, 116, rfl⟩
abbrev main_while0b_call2_c_0 : Ref sig .tc := ⟨.hbm, 117, rfl⟩
abbrev main_while0b_call2_v2 : Ref sig .tc := ⟨.hbm, 118, rfl⟩
abbrev main_while0b_call2_v3 : Ref sig .tc := ⟨.hbm, 119, rfl⟩
abbrev main_while0b_call2_c_1 : Ref sig .tc := ⟨.hbm, 120, rfl⟩
abbrev main_while0b_call2_c_2 : Ref sig .tc := ⟨.hbm, 121, rfl⟩
abbrev main_while0b_call2_c_3 : Ref sig .tc := ⟨.hbm, 122, rfl⟩
abbrev main_while0b_call2_v4 : Ref sig .tc := ⟨.hbm, 123, rfl⟩
abbrev main_while0b_v121 : Ref sig .tc := ⟨.hbm, 124, rfl⟩
abbrev main_while0b_cst_25 : Ref sig .tc := ⟨.hbm, 125, rfl⟩
abbrev main_while0b_v122 : Ref sig .tc := ⟨.hbm, 126, rfl⟩
abbrev main_while0b_v123 : Ref sig .tc := ⟨.hbm, 127, rfl⟩
abbrev main_while0b_v124 : Ref sig .tc := ⟨.hbm, 128, rfl⟩
abbrev main_while0b_v125 : Ref sig .tc := ⟨.hbm, 129, rfl⟩
abbrev main_while0b_v126 : Ref sig .tc := ⟨.hbm, 130, rfl⟩
abbrev main_while0b_v127 : Ref sig .tc := ⟨.hbm, 131, rfl⟩
abbrev main_while0b_v128 : Ref sig .tc := ⟨.hbm, 132, rfl⟩
abbrev main_while0b_v129 : Ref sig .tc := ⟨.hbm, 133, rfl⟩
abbrev main_while0b_v130 : Ref sig .tc := ⟨.hbm, 134, rfl⟩
abbrev main_while0b_c_26 : Ref sig .tc := ⟨.hbm, 135, rfl⟩
abbrev main_while0b_v131 : Ref sig .tc := ⟨.hbm, 136, rfl⟩
abbrev main_while0b_call3_c : Ref sig .tc := ⟨.hbm, 137, rfl⟩
abbrev main_while0b_call3_v0 : Ref sig .tc := ⟨.hbm, 138, rfl⟩
abbrev main_while0b_call3_v1 : Ref sig .tc := ⟨.hbm, 139, rfl⟩
abbrev main_while0b_call3_c_0 : Ref sig .tc := ⟨.hbm, 140, rfl⟩
abbrev main_while0b_call3_v2 : Ref sig .tc := ⟨.hbm, 141, rfl⟩
abbrev main_while0b_call3_v3 : Ref sig .tc := ⟨.hbm, 142, rfl⟩
abbrev main_while0b_call3_c_1 : Ref sig .tc := ⟨.hbm, 143, rfl⟩
abbrev main_while0b_call3_c_2 : Ref sig .tc := ⟨.hbm, 144, rfl⟩
abbrev main_while0b_call3_v4 : Ref sig .tc := ⟨.hbm, 145, rfl⟩
abbrev main_while0b_v132 : Ref sig .tc := ⟨.hbm, 146, rfl⟩
abbrev main_while0b_v133 : Ref sig .tc := ⟨.hbm, 147, rfl⟩
abbrev main_while0b_v134 : Ref sig .tc := ⟨.hbm, 148, rfl⟩
abbrev main_while0b_call4_v0 : Ref sig .tc := ⟨.hbm, 149, rfl⟩
abbrev main_while0b_call4_c : Ref sig .tc := ⟨.hbm, 150, rfl⟩
abbrev main_while0b_call4_v1 : Ref sig .tc := ⟨.hbm, 151, rfl⟩
abbrev main_while0b_call4_v2 : Ref sig .tc := ⟨.hbm, 152, rfl⟩
abbrev main_while0b_call4_c_0 : Ref sig .tc := ⟨.hbm, 153, rfl⟩
abbrev main_while0b_call4_v3 : Ref sig .tc := ⟨.hbm, 154, rfl⟩
abbrev main_while0b_call4_v4 : Ref sig .tc := ⟨.hbm, 155, rfl⟩
abbrev main_while0b_call4_c_1 : Ref sig .tc := ⟨.hbm, 156, rfl⟩
abbrev main_while0b_call4_c_2 : Ref sig .tc := ⟨.hbm, 157, rfl⟩
abbrev main_while0b_v135 : Ref sig .tc := ⟨.hbm, 158, rfl⟩
abbrev main_while0b_c_27 : Ref sig .tc := ⟨.hbm, 159, rfl⟩
abbrev main_while0b_v136 : Ref sig .tc := ⟨.hbm, 160, rfl⟩
abbrev main_v79 : Ref sig .tc := ⟨.hbm, 161, rfl⟩
abbrev main_v80 : Ref sig .tc := ⟨.hbm, 162, rfl⟩
abbrev main_cst_12 : Ref sig .tc := ⟨.hbm, 163, rfl⟩
abbrev main_call5_v0 : Ref sig .tc := ⟨.hbm, 164, rfl⟩
abbrev main_call5_v1 : Ref sig .tc := ⟨.hbm, 165, rfl⟩
abbrev main_v81 : Ref sig .tc := ⟨.hbm, 166, rfl⟩
abbrev main_cst_13 : Ref sig .tc := ⟨.hbm, 167, rfl⟩
abbrev main_call6_v0 : Ref sig .tc := ⟨.hbm, 168, rfl⟩
abbrev main_call6_v1 : Ref sig .tc := ⟨.hbm, 169, rfl⟩
abbrev main_v82 : Ref sig .tc := ⟨.hbm, 170, rfl⟩
abbrev main_cst_14 : Ref sig .tc := ⟨.hbm, 171, rfl⟩
abbrev main_call7_v0 : Ref sig .tc := ⟨.hbm, 172, rfl⟩
abbrev main_call7_v1 : Ref sig .tc := ⟨.hbm, 173, rfl⟩
abbrev main_v83 : Ref sig .tc := ⟨.hbm, 174, rfl⟩
abbrev main_cst_15 : Ref sig .tc := ⟨.hbm, 175, rfl⟩
abbrev main_call8_v0 : Ref sig .tc := ⟨.hbm, 176, rfl⟩
abbrev main_call8_v1 : Ref sig .tc := ⟨.hbm, 177, rfl⟩
abbrev main_v84 : Ref sig .tc := ⟨.hbm, 178, rfl⟩
abbrev main_cst_16 : Ref sig .tc := ⟨.hbm, 179, rfl⟩
abbrev main_call9_v0 : Ref sig .tc := ⟨.hbm, 180, rfl⟩
abbrev main_call9_v1 : Ref sig .tc := ⟨.hbm, 181, rfl⟩
abbrev main_v85 : Ref sig .tc := ⟨.hbm, 182, rfl⟩
abbrev main_cst_17 : Ref sig .tc := ⟨.hbm, 183, rfl⟩
abbrev main_call10_v0 : Ref sig .tc := ⟨.hbm, 184, rfl⟩
abbrev main_call10_v1 : Ref sig .tc := ⟨.hbm, 185, rfl⟩
abbrev main_v86 : Ref sig .tc := ⟨.hbm, 186, rfl⟩
abbrev main_cst_18 : Ref sig .tc := ⟨.hbm, 187, rfl⟩
abbrev main_call11_v0 : Ref sig .tc := ⟨.hbm, 188, rfl⟩
abbrev main_call11_v1 : Ref sig .tc := ⟨.hbm, 189, rfl⟩
abbrev main_v87 : Ref sig .tc := ⟨.hbm, 190, rfl⟩
abbrev main_v88_0 : Ref sig .tc := ⟨.hbm, 191, rfl⟩
abbrev main_v88_1 : Ref sig .tc := ⟨.hbm, 192, rfl⟩
abbrev main_v88_2 : Ref sig .tc := ⟨.hbm, 193, rfl⟩
abbrev main_v88_3 : Ref sig .tc := ⟨.hbm, 194, rfl⟩
abbrev main_v88_4 : Ref sig .tc := ⟨.hbm, 195, rfl⟩
abbrev main_v88_5 : Ref sig .tc := ⟨.hbm, 196, rfl⟩
abbrev main_v88_6 : Ref sig .tc := ⟨.hbm, 197, rfl⟩
abbrev main_v88_7 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104_0 : Ref sig .tc := ⟨.hbm, 214, rfl⟩
abbrev main_v104_1 : Ref sig .tc := ⟨.hbm, 215, rfl⟩
abbrev main_v104_2 : Ref sig .tc := ⟨.hbm, 216, rfl⟩
abbrev main_v104_3 : Ref sig .tc := ⟨.hbm, 217, rfl⟩
abbrev main_v104_4 : Ref sig .tc := ⟨.hbm, 218, rfl⟩
abbrev main_v104_5 : Ref sig .tc := ⟨.hbm, 219, rfl⟩
abbrev main_v104_6 : Ref sig .tc := ⟨.hbm, 220, rfl⟩
abbrev main_v104_7 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩

abbrev nD : Nat := 1
abbrev τ : Topo := Topo.v7x

variable {F : FTy → Type} [FloatOps F]

abbrev main_while0_count : Scf.Loop 32 := ⟨0#32, 5000#32, 1#32⟩
-- ==== Proof.KernelIdealBody.lean ====
/-
  The kernel body run on any staging buffers: what it leaves in the output block, found by running it.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- No loop variants are needed. -/
abbrev 𝒱₀ : Variants := Variants.none

/-- One round of the per-class selection: the scores left and the rows picked so far, from the boxes' corners,
    the extra field, the areas, and the state before the round. -/
def step1 (ymin xmin ymax xmax extra area : FVec F S80x5120 .f32) (lane : IVec S80x5120 32) (k : Fin k0_t1_loop.trips)
    (acc : FVec F S80x5120 .f32 × FVec F S80x8x200 .f32) : FVec F S80x5120 .f32 × FVec F S80x8x200 .f32 :=
  (k0_pay35 xmin xmax area acc.1 (k0_pay16 lane acc.1)
      (k0_pay18 xmin lane acc.1)
      (k0_pay20 xmax lane acc.1)
      (k0_pay22 ymin xmin ymax xmax lane acc.1)
      (k0_pay23 ymin ymax lane acc.1) k0_pay24,
    k0_pay36 20#32 k0_pay32 k0_pay33 acc.2 (Scf.iv 0#32 1#32 k) (k0_pay15 acc.1)
      (k0_pay17 ymin lane acc.1)
      (k0_pay18 xmin lane acc.1)
      (k0_pay19 ymax lane acc.1)
      (k0_pay20 xmax lane acc.1)
      (k0_pay21 extra lane acc.1))

/-- All 200 rounds, from the starting scores and empty rows. -/
def loop1 (ymin xmin ymax xmax extra score area : FVec F S80x5120 .f32) (lane : IVec S80x5120 32) : FVec F S80x5120 .f32 × FVec F S80x8x200 .f32 :=
  Scf.fold (step1 ymin xmin ymax xmax extra area lane) (score, k0_pay34)

/-- The kernel's loop is its rounds, one after another. -/
theorem loop1_for (M0 : Memref sig .tc .vmem S80x5120 .f32) (h0 : M0.IsWhole) (M1 : Memref sig .tc .vmem S80x5120 .f32) (h1 : M1.IsWhole) (M2 : Memref sig .tc .vmem S80x5120 .f32) (h2 : M2.IsWhole) (M3 : Memref sig .tc .vmem S80x5120 .f32) (h3 : M3.IsWhole) (M4 : Memref sig .tc .vmem S80x5120 .f32) (h4 : M4.IsWhole) (M5 : Memref sig .tc .vmem S80x5120 .f32) (h5 : M5.IsWhole) (M6 : Memref sig .tc .vmem S4x8x200 .f32) (h6 : M6.IsWhole)
    (v3 v5 v7 v9 v11 v15 v22 : FVec F S80x5120 .f32) (v23 : IVec S80x5120 32) :
    Scf.Loop.for k0_t1_loop k0_t1_ok (v15, k0_pay34) (k0_t1_body M0 h0 M1 h1 M2 h2 M3 h3 M4 h4 M5 h5 M6 h6 v3 v5 v7 v9 v11 v15 v22 v23 20#32 k0_pay32 k0_pay33)
      = .ret ((loop1 v3 v5 v7 v9 v11 v15 v22 v23).1, (loop1 v3 v5 v7 v9 v11 v15 v22 v23).2) :=
  Scf.for_pure _ _ _ _ _ _ (step1 v3 v5 v7 v9 v11 v22 v23) fun _ _ => rfl

/-- The body, run: with its input blocks at the given contents it ends with them unchanged and the output block at some
    fixed contents, found on the way. -/
noncomputable def kernelRun (c : Dev nD) (M0 : Memref sig .tc .vmem S80x5120 .f32) (h0 : M0.IsWhole) (M1 : Memref sig .tc .vmem S80x5120 .f32) (h1 : M1.IsWhole) (M2 : Memref sig .tc .vmem S80x5120 .f32) (h2 : M2.IsWhole) (M3 : Memref sig .tc .vmem S80x5120 .f32) (h3 : M3.IsWhole) (M4 : Memref sig .tc .vmem S80x5120 .f32) (h4 : M4.IsWhole) (M5 : Memref sig .tc .vmem S80x5120 .f32) (h5 : M5.IsWhole) (M6 : Memref sig .tc .vmem S4x8x200 .f32) (h6 : M6.IsWhole)
    (x0 : Vec F S80x5120 .f32) (x1 : Vec F S80x5120 .f32) (x2 : Vec F S80x5120 .f32) (x3 : Vec F S80x5120 .f32) (x4 : Vec F S80x5120 .f32) (x5 : Vec F S80x5120 .f32) :
    { Y : Vec F S4x8x200 .f32 //
      ∀ (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ (∃ d, owns (c : Thread nD τ) M6 fullShare d)
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare Y) -∗ K ⟨⟩))
          ⊢ wp frame (wpE (defs₀ (F := F)) 𝒱₀ c none) E (cc0__nms_body M0 h0 M1 h1 M2 h2 M3 h3 M4 h4 M5 h5 M6 h6) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_unfold [cc0__nms_body]
    sl_exec!
    rw [loop1_for]
    sl_exec!
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; isplitr; swap; · iexact H6
    ipureintro; rfl

end Cert.Proof.KernelIdeal

end
-- ==== Proof.Words.lean ====
/-
  Folds of `max` over extended reals and of the signed minimum over words that hold numbers.
-/
module

public import Idealize.ShloMosaic.Lib.PlanTiles.Rows
public import Idealize.ShloMosaic.Lib.Pointwise
public import Idealize.ShloMosaic.PureOps.Ideal
public import Idealize.ShloMosaic.PureOps.Ideal.Laws

@[expose] public section

noncomputable section

namespace Cert.Proof.Words

open Idealize.ShloMosaic

/-- The signed minimum of words holding numbers holds the numbers' minimum. -/
theorem fold_minsi {ι : Type} [DecidableEq ι] (s : Finset ι) (f : ι → ℕ) (hf : ∀ x, f x < 2147483648) :
    Finset.fold IntOp.minsi (2147483647#32) (fun x => BitVec.ofNat 32 (f x)) s = BitVec.ofNat 32 (Finset.fold min 2147483647 f s)
      ∧ Finset.fold min 2147483647 f s < 2147483648 := by
  induction s using Finset.induction_on with
  | empty => exact ⟨rfl, by rw [Finset.fold_empty]; decide⟩
  | insert a s ha ih =>
    rw [Finset.fold_insert ha, Finset.fold_insert ha, ih.1]
    refine ⟨?_, lt_of_le_of_lt (min_le_left _ _) (hf a)⟩
    rw [Idealize.ShloMosaic.PlanTiles.minsi_word (hf a) ih.2, min_comm]

/-- So it is the word of the least number, where one of the words holds that. -/
theorem fold_minsi_eq {ι : Type} [Fintype ι] [DecidableEq ι] (f : ι → ℕ) (hf : ∀ x, f x < 2147483648) (q : ι) (hq : ∀ x, f q ≤ f x) :
    Finset.fold IntOp.minsi (2147483647#32) (fun x => BitVec.ofNat 32 (f x)) Finset.univ = BitVec.ofNat 32 (f q) := by
  rw [(fold_minsi Finset.univ f hf).1]
  congr 1
  apply le_antisymm
  · exact (Finset.fold_min_le _).mpr (.inr ⟨q, Finset.mem_univ _, le_refl _⟩)
  · exact (Finset.le_fold_min _).mpr ⟨by have := hf q; omega, fun x _ => hq x⟩

/-- The pattern of minus infinity. -/
theorem ofBits_negInf : Ideal.ofBits .f32 4286578688#32 = ⊥ := by
  simp [Ideal.ofBits, Ideal.ieee]

/-- A maximum over a nonempty index set, started from minus infinity, is one of the values and bounds them all. -/
theorem fold_max_spec {ι : Type} [Fintype ι] [Nonempty ι] (g : ι → EReal) :
    (∃ q, g q = Finset.fold max (Ideal.ofBits .f32 4286578688#32) g Finset.univ)
      ∧ ∀ x, g x ≤ Finset.fold max (Ideal.ofBits .f32 4286578688#32) g Finset.univ := by
  rw [ofBits_negInf]
  have hb : ∀ x, g x ≤ Finset.fold max ⊥ g Finset.univ := fun x => (Finset.le_fold_max _).mpr (.inr ⟨x, Finset.mem_univ _, le_refl _⟩)
  obtain ⟨q, -, hq⟩ := Finset.exists_max_image (Finset.univ : Finset ι) g Finset.univ_nonempty
  exact ⟨⟨q, le_antisymm (hb q) ((Finset.fold_max_le _).mpr ⟨bot_le, fun x _ => hq x (Finset.mem_univ _)⟩)⟩, hb⟩

/-- The value of a maximum, from a place that attains it. -/
theorem fold_max_eq {ι : Type} [Fintype ι] (g : ι → EReal) (q : ι) (hq : ∀ x, g x ≤ g q) :
    Finset.fold max (Ideal.ofBits .f32 4286578688#32) g Finset.univ = g q := by
  rw [ofBits_negInf]
  exact le_antisymm ((Finset.fold_max_le _).mpr ⟨bot_le, fun x _ => hq x⟩) ((Finset.le_fold_max _).mpr (.inr ⟨q, Finset.mem_univ _, le_refl _⟩))

/-- Two words of small numbers compare equal exactly when the numbers are equal. -/
theorem cmpi_eq_ofNat {a b : ℕ} (ha : a < 4294967296) (hb : b < 4294967296) :
    IntOp.cmpi .eq (BitVec.ofNat 32 a) (BitVec.ofNat 32 b) = if a = b then 1#1 else 0#1 := by
  have h : (BitVec.ofNat 32 a = BitVec.ofNat 32 b) ↔ a = b := by
    constructor
    · intro h
      have := congrArg BitVec.toNat h
      rw [BitVec.toNat_ofNat, BitVec.toNat_ofNat] at this
      omega
    · rintro rfl; rfl
  by_cases hab : a = b
  · subst hab; simp [IntOp.cmpi]
  · have : ¬ (BitVec.ofNat 32 a = BitVec.ofNat 32 b) := fun e => hab (h.mp e)
    rw [if_neg hab]
    show BitVec.ofBool (BitVec.ofNat 32 a == BitVec.ofNat 32 b) = 0#1
    rw [beq_eq_false_iff_ne.mpr this]
    rfl

/-- Among finitely many places some of which are marked, there is one with the least number. -/
theorem exists_least {ι : Type} [Fintype ι] (P : ι → Prop) (g : ι → ℕ) (h : ∃ x, P x) : ∃ q, P q ∧ ∀ x, P x → g q ≤ g x := by
  classical
  obtain ⟨x, hx⟩ := h
  obtain ⟨q, hq, hq'⟩ := Finset.exists_min_image (Finset.univ.filter P) g ⟨x, by simp [hx]⟩
  exact ⟨q, by simpa using hq, fun y hy => hq' y (by simp [hy])⟩

/-- The maximum over a nonempty table, row by row, is one of the values and bounds them all. -/
theorem fold_max2_spec {ι κ : Type} [Fintype ι] [Fintype κ] [Nonempty ι] [Nonempty κ] (g : ι → κ → EReal) :
    (∃ a b, g a b = Finset.fold max (Ideal.ofBits .f32 4286578688#32)
        (fun x => Finset.fold max (Ideal.ofBits .f32 4286578688#32) (fun y => g x y) Finset.univ) Finset.univ)
      ∧ ∀ a b, g a b ≤ Finset.fold max (Ideal.ofBits .f32 4286578688#32)
        (fun x => Finset.fold max (Ideal.ofBits .f32 4286578688#32) (fun y => g x y) Finset.univ) Finset.univ := by
  obtain ⟨⟨a, ha⟩, h1⟩ := fold_max_spec fun x => Finset.fold max (Ideal.ofBits .f32 4286578688#32) (fun y => g x y) Finset.univ
  obtain ⟨⟨b, hb⟩, -⟩ := fold_max_spec (g a)
  exact ⟨⟨a, b, hb.trans ha⟩, fun x y => ((fold_max_spec (g x)).2 y).trans (h1 x)⟩

/-- The signed minimum over a table of words, row by row, is the word of the least number, where a place holds that. -/
theorem fold_minsi2_eq {ι κ : Type} [Fintype ι] [Fintype κ] [DecidableEq ι] [DecidableEq κ] (f : ι → κ → ℕ)
    (hf : ∀ x y, f x y < 2147483648) (a : ι) (b : κ) (hq : ∀ x y, f a b ≤ f x y) :
    Finset.fold IntOp.minsi (2147483647#32)
      (fun x => Finset.fold IntOp.minsi (2147483647#32) (fun y => BitVec.ofNat 32 (f x y)) Finset.univ) Finset.univ
      = BitVec.ofNat 32 (f a b) := by
  have e : (fun x => Finset.fold IntOp.minsi (2147483647#32) (fun y => BitVec.ofNat 32 (f x y)) Finset.univ)
      = fun x => BitVec.ofNat 32 (Finset.fold min 2147483647 (f x) Finset.univ) :=
    funext fun x => (fold_minsi Finset.univ (f x) (hf x)).1
  have hab : Finset.fold min 2147483647 (f a) Finset.univ = f a b :=
    le_antisymm ((Finset.fold_min_le _).mpr (.inr ⟨b, Finset.mem_univ _, le_refl _⟩))
      ((Finset.le_fold_min _).mpr ⟨by have := hf a b; omega, fun y _ => hq a y⟩)
  rw [e, fold_minsi_eq _ (fun x => (fold_minsi Finset.univ (f x) (hf x)).2) a fun x => ?_, hab]
  rw [hab]
  exact (Finset.le_fold_min _).mpr ⟨by have := hf a b; omega, fun y _ => hq x y⟩

/-- A sum of a table's values under a mark on one place alone is the value there. -/
theorem sum_mark2 {M N : ℕ} (mark : Fin M → Fin N → BitVec 1) (x : Fin M → Fin N → EReal) (a : Fin M) (b : Fin N)
    (h : ∀ c r, mark c r = if c = a ∧ r = b then 1#1 else 0#1) :
    ∑ r, ∑ c, Scalar.select (mark c r) (x c r) 0 = x a b := by
  rw [Finset.sum_eq_single b, Finset.sum_eq_single a]
  · rw [h, if_pos ⟨rfl, rfl⟩]; rfl
  · intro c _ hc; rw [h, if_neg fun e => hc e.1]; rfl
  · intro hq; exact absurd (Finset.mem_univ _) hq
  · intro r _ hr
    exact Finset.sum_eq_zero fun c _ => by rw [h, if_neg fun e => hr e.2]; rfl
  · intro hq; exact absurd (Finset.mem_univ _) hq

end Cert.Proof.Words

end
-- ==== Proof.Greedy.lean ====
module

public import Mathlib.Order.Fin.Basic
public import Mathlib.Order.Lattice
public import Mathlib.Data.Fintype.Card
public import Mathlib.Data.Fin.Basic

@[expose] public section

/-! # Picking the best one again and again is sorting first

The combinatorics, free of any program. Stage one: suppressing greedily while walking down the sorted boxes keeps the
same boxes, in the same order, as taking the best remaining box and striking out what it suppresses, again and again.
Stage two: taking the largest of a table and striking it out, again and again, walks down the sorted table. -/

namespace Cert.Proof.Greedy

section Stage1

variable {n : ℕ} {valid : Fin n → Prop} {sup : Fin n → Fin n → Prop} {keep : Fin n → Prop} {σ τ : Fin n → Fin n}

/-- Box `x` is still a candidate after the first `t` kept boxes: it is valid, and none of them is it or suppresses it. -/
def Alive (valid : Fin n → Prop) (sup : Fin n → Fin n → Prop) (keep : Fin n → Prop) (σ τ : Fin n → Fin n)
    (t : ℕ) (x : Fin n) : Prop :=
  valid x ∧ ∀ s : Fin n, (s : ℕ) < t → keep (τ s) → ¬ sup (σ (τ s)) x ∧ x ≠ σ (τ s)

/-- What the keeping rule, the order of the boxes (`σ`) and the order of the kept ones (`τ`) satisfy. -/
structure Sorted (valid : Fin n → Prop) (sup : Fin n → Fin n → Prop) (keep : Fin n → Prop) (σ τ : Fin n → Fin n) :
    Prop where
  keep_iff : ∀ i, keep i ↔ valid (σ i) ∧ ∀ j, j < i → keep j → ¬ sup (σ j) (σ i)
  surj : Function.Surjective σ
  inj : Function.Injective σ
  tsurj : Function.Surjective τ
  down : ∀ r s, r ≤ s → keep (τ s) → keep (τ r) ∧ τ r ≤ τ s
  tinj : Function.Injective τ

/-- Nothing is struck out at the start. -/
theorem alive_zero {x : Fin n} : Alive valid sup keep σ τ 0 x ↔ valid x :=
  ⟨fun h => h.1, fun h => ⟨h, fun _ hs => absurd hs (Nat.not_lt_zero _)⟩⟩

/-- One more round strikes out the round's box and what it suppresses. -/
theorem alive_succ {t : ℕ} (ht : t < n) {x : Fin n} :
    Alive valid sup keep σ τ (t + 1) x ↔
      Alive valid sup keep σ τ t x ∧ (keep (τ ⟨t, ht⟩) → ¬ sup (σ (τ ⟨t, ht⟩)) x ∧ x ≠ σ (τ ⟨t, ht⟩)) := by
  constructor
  · intro h
    exact ⟨⟨h.1, fun s hs hk => h.2 s (Nat.lt_succ_of_lt hs) hk⟩, fun hk => h.2 ⟨t, ht⟩ (Nat.lt_succ_self t) hk⟩
  · intro h
    refine ⟨h.1.1, fun s hs hk => ?_⟩
    rcases Nat.lt_succ_iff_lt_or_eq.mp hs with h1 | h1
    · exact h.1.2 s h1 hk
    · have : s = ⟨t, ht⟩ := Fin.ext h1
      subst this
      exact h.2 hk

/-- While a candidate is left, the round has a kept box, and it stands no later than the candidate. -/
theorem Sorted.first (h : Sorted valid sup keep σ τ) {t : ℕ} (ht : t < n) {x : Fin n}
    (hx : Alive valid sup keep σ τ t x) : keep (τ ⟨t, ht⟩) ∧ ∃ i, x = σ i ∧ τ ⟨t, ht⟩ ≤ i := by
  obtain ⟨i, rfl⟩ := h.surj x
  -- a kept box at or before `i` that the first `t` are not
  have key : ∃ r : Fin n, keep (τ r) ∧ τ r ≤ i ∧ t ≤ (r : ℕ) := by
    by_cases hk : keep i
    · obtain ⟨r, rfl⟩ := h.tsurj i
      refine ⟨r, hk, le_refl _, ?_⟩
      by_contra hlt
      exact (hx.2 r (not_le.mp hlt) hk).2 rfl
    · have : ∃ j, j < i ∧ keep j ∧ sup (σ j) (σ i) := by
        by_contra hno
        exact hk ((h.keep_iff i).2 ⟨hx.1, fun j hj hkj hs => hno ⟨j, hj, hkj, hs⟩⟩)
      obtain ⟨j, hj, hkj, hs⟩ := this
      obtain ⟨r, rfl⟩ := h.tsurj j
      refine ⟨r, hkj, le_of_lt hj, ?_⟩
      by_contra hlt
      exact (hx.2 r (not_le.mp hlt) hkj).1 hs
  obtain ⟨r, hkr, hri, htr⟩ := key
  have hd := h.down ⟨t, ht⟩ r htr hkr
  exact ⟨hd.1, i, rfl, le_trans hd.2 hri⟩

/-- The round's kept box is a candidate. -/
theorem Sorted.alive (h : Sorted valid sup keep σ τ) {t : ℕ} (ht : t < n) (hk : keep (τ ⟨t, ht⟩)) :
    Alive valid sup keep σ τ t (σ (τ ⟨t, ht⟩)) := by
  have hv := (h.keep_iff _).1 hk
  refine ⟨hv.1, fun s hs hks => ?_⟩
  have hne : s ≠ ⟨t, ht⟩ := fun e => by rw [e] at hs; exact lt_irrefl _ hs
  have hlt : τ s < τ ⟨t, ht⟩ := lt_of_le_of_ne (h.down s ⟨t, ht⟩ (le_of_lt hs) hk).2 fun e => hne (h.tinj e)
  exact ⟨hv.2 _ hlt hks, fun e => absurd (h.inj e) (ne_of_gt hlt)⟩

variable {α : Type*} [LinearOrder α]

open Classical in
/-- The scores after `t` rounds over `N` lanes, of which the first `n` are boxes: a candidate's own score, else `lo`. -/
noncomputable def scoreAt (N : ℕ) (lo : α) (conf : Fin n → α) (valid : Fin n → Prop) (sup : Fin n → Fin n → Prop)
    (keep : Fin n → Prop) (σ τ : Fin n → Fin n) (t : ℕ) (l : Fin N) : α :=
  if h : ∃ hl : (l : ℕ) < n, Alive valid sup keep σ τ t ⟨l, hl⟩ then conf ⟨l, h.1⟩ else lo

variable {N : ℕ} {lo : α} {conf : Fin n → α}

/-- A candidate's score. -/
theorem scoreAt_pos {t : ℕ} {l : Fin N} (hl : (l : ℕ) < n) (h : Alive valid sup keep σ τ t ⟨l, hl⟩) :
    scoreAt N lo conf valid sup keep σ τ t l = conf ⟨l, hl⟩ := by
  unfold scoreAt
  rw [dif_pos ⟨hl, h⟩]

/-- The score of a lane that is no candidate. -/
theorem scoreAt_neg {t : ℕ} {l : Fin N} (h : ¬ ∃ hl : (l : ℕ) < n, Alive valid sup keep σ τ t ⟨l, hl⟩) :
    scoreAt N lo conf valid sup keep σ τ t l = lo := by
  unfold scoreAt
  rw [dif_neg h]

/-- The order of the boxes: best score first, equal scores by lane; a valid box's score is above `lo`. -/
structure ByScore (lo : α) (conf : Fin n → α) (valid : Fin n → Prop) (σ : Fin n → Fin n) : Prop where
  above : ∀ x, valid x → lo < conf x
  le : ∀ i j, i ≤ j → valid (σ j) → conf (σ j) < conf (σ i) ∨ (conf (σ i) = conf (σ j) ∧ σ i ≤ σ j)

/-- While the round has a kept box, the largest score is that box's and its first lane is that box's lane. -/
theorem Sorted.pick (h : Sorted valid sup keep σ τ) (hb : ByScore lo conf valid σ) (hN : n ≤ N) {t : ℕ} (ht : t < n)
    (hk : keep (τ ⟨t, ht⟩)) {m : α} (hm : ∀ l : Fin N, scoreAt N lo conf valid sup keep σ τ t l ≤ m)
    (hm' : ∃ l : Fin N, scoreAt N lo conf valid sup keep σ τ t l = m) {p : Fin N}
    (hp : scoreAt N lo conf valid sup keep σ τ t p = m)
    (hp' : ∀ l : Fin N, scoreAt N lo conf valid sup keep σ τ t l = m → p ≤ l) :
    m = conf (σ (τ ⟨t, ht⟩)) ∧ (p : ℕ) = σ (τ ⟨t, ht⟩) := by
  set x := σ (τ ⟨t, ht⟩) with hx
  have hax : Alive valid sup keep σ τ t x := h.alive ht hk
  have hxs : scoreAt N lo conf valid sup keep σ τ t (Fin.castLE hN x) = conf x := scoreAt_pos x.2 hax
  have hxm : conf x ≤ m := hxs ▸ hm (Fin.castLE hN x)
  have hlo : lo < m := lt_of_lt_of_le (hb.above x hax.1) hxm
  -- the lane picked is a candidate's
  have hal : ∃ hl : (p : ℕ) < n, Alive valid sup keep σ τ t ⟨p, hl⟩ := by
    by_contra hno
    rw [scoreAt_neg hno] at hp
    exact absurd hp (ne_of_lt hlo)
  obtain ⟨hpn, hpa⟩ := hal
  rw [scoreAt_pos hpn hpa] at hp
  obtain ⟨-, i, hi, hle⟩ := h.first ht hpa
  have hval : valid (σ i) := hi ▸ hpa.1
  rcases hb.le _ _ hle hval with hlt | ⟨heq, hll⟩
  · rw [← hi, hp] at hlt
    exact absurd hlt (not_lt.mpr hxm)
  · rw [← hi, hp] at heq
    refine ⟨heq.symm, le_antisymm ?_ ?_⟩
    · have := hp' (Fin.castLE hN x) (hxs.trans heq)
      exact this
    · rw [← hi] at hll
      exact hll

/-- When the round has no kept box, every score is `lo`. -/
theorem Sorted.none (h : Sorted valid sup keep σ τ) {t : ℕ} (ht : t < n) (hk : ¬ keep (τ ⟨t, ht⟩)) (l : Fin N) :
    scoreAt N lo conf valid sup keep σ τ t l = lo :=
  scoreAt_neg fun ⟨_, ha⟩ => hk (h.first ht ha).1

open Classical in
/-- One round on the scores: striking out the picked lane and what it suppresses. `supN` is the suppression over lanes,
    which among boxes is `sup`. -/
theorem Sorted.step (h : Sorted valid sup keep σ τ) (hb : ByScore lo conf valid σ) (hN : n ≤ N) {t : ℕ} (ht : t < n)
    {supN : Fin N → Fin N → Prop} (hsup : ∀ x y : Fin n, supN (Fin.castLE hN x) (Fin.castLE hN y) ↔ sup x y)
    {m : α} (hm : ∀ l : Fin N, scoreAt N lo conf valid sup keep σ τ t l ≤ m)
    {p : Fin N}
    (hp : scoreAt N lo conf valid sup keep σ τ t p = m)
    (hp' : ∀ l : Fin N, scoreAt N lo conf valid sup keep σ τ t l = m → p ≤ l) (l : Fin N) :
    (if supN p l ∨ l = p then lo else scoreAt N lo conf valid sup keep σ τ t l) =
      scoreAt N lo conf valid sup keep σ τ (t + 1) l := by
  by_cases hk : keep (τ ⟨t, ht⟩)
  · obtain ⟨-, hpx⟩ := h.pick hb hN ht hk hm ⟨p, hp⟩ hp hp'
    have hpe : p = Fin.castLE hN (σ (τ ⟨t, ht⟩)) := Fin.ext hpx
    by_cases hl : (l : ℕ) < n
    · have hle : l = Fin.castLE hN ⟨l, hl⟩ := rfl
      have hs : supN p l ↔ sup (σ (τ ⟨t, ht⟩)) ⟨l, hl⟩ := by rw [hpe]; exact hsup _ ⟨l, hl⟩
      have he : l = p ↔ (⟨l, hl⟩ : Fin n) = σ (τ ⟨t, ht⟩) := by
        rw [hpe, Fin.ext_iff, Fin.ext_iff]; exact Iff.rfl
      by_cases hc : supN p l ∨ l = p
      · rw [if_pos hc, scoreAt_neg]
        rintro ⟨_, ha⟩
        obtain ⟨h1, h2⟩ := ((alive_succ ht).1 ha).2 hk
        exact hc.elim (fun h' => h1 (hs.1 h')) fun h' => h2 (he.1 h')
      · rw [if_neg hc]
        rw [not_or] at hc
        by_cases ha : Alive valid sup keep σ τ t ⟨l, hl⟩
        · rw [scoreAt_pos hl ha, scoreAt_pos hl ((alive_succ ht).2 ⟨ha, fun _ => ⟨fun h' => hc.1 (hs.2 h'), fun h' => hc.2 (he.2 h')⟩⟩)]
        · rw [scoreAt_neg fun ⟨_, ha'⟩ => ha ha', scoreAt_neg fun ⟨_, ha'⟩ => ha ((alive_succ ht).1 ha').1]
    · rw [scoreAt_neg fun ⟨hl', _⟩ => hl hl', scoreAt_neg fun ⟨hl', _⟩ => hl hl', ite_self]
  · rw [h.none ht hk l, ite_self, scoreAt_neg]
    rintro ⟨hl, ha⟩
    exact hk (h.first ht ((alive_succ ht).1 ha).1).1

end Stage1

section Stage2

variable {α : Type*} [LinearOrder α] {C R W : ℕ}

/-- The place of row `r` of class `c` in a table of `R` rows a class. -/
def flat (R : ℕ) {C : ℕ} (c : Fin C) (r : Fin R) : Fin (C * R) :=
  ⟨c * R + r, by
    have h1 : (c : ℕ) + 1 ≤ C := c.2
    calc (c : ℕ) * R + r < c * R + R := by have := r.2; omega
      _ = (c + 1) * R := (Nat.succ_mul _ _).symm
      _ ≤ C * R := Nat.mul_le_mul_right R h1⟩

/-- Every place is some class's row. -/
theorem flat_surj (q : Fin (C * R)) : ∃ (c : Fin C) (r : Fin R), flat R c r = q := by
  have hR : 0 < R := by
    rcases Nat.eq_zero_or_pos R with h | h
    · subst h; exact absurd q.2 (by simp)
    · exact h
  refine ⟨⟨q / R, Nat.div_lt_of_lt_mul (lt_of_lt_of_eq q.2 (Nat.mul_comm C R))⟩, ⟨q % R, Nat.mod_lt _ hR⟩, Fin.ext ?_⟩
  exact Nat.div_add_mod' _ _

/-- Places are ordered by class and then by row. -/
theorem flat_le {c c' : Fin C} {r r' : Fin R} :
    flat R c r ≤ flat R c' r' ↔ c < c' ∨ (c = c' ∧ r ≤ r') := by
  have h1 := r.2
  have h2 := r'.2
  rw [Fin.le_def, Fin.lt_def, Fin.ext_iff, Fin.le_def]
  show (c : ℕ) * R + r ≤ c' * R + r' ↔ _
  rcases Nat.lt_trichotomy (c : ℕ) c' with h | h | h
  · have : (c + 1) * R ≤ c' * R := Nat.mul_le_mul_right R h
    rw [Nat.add_mul, Nat.one_mul] at this
    constructor
    · intro _; exact Or.inl h
    · intro _; omega
  · rw [h]; omega
  · have : (c' + 1) * R ≤ c * R := Nat.mul_le_mul_right R h
    rw [Nat.add_mul, Nat.one_mul] at this
    constructor
    · intro _; omega
    · rintro (h' | h') <;> omega

/-- A place determines its class and row. -/
theorem flat_inj {c c' : Fin C} {r r' : Fin R} (h : flat R c r = flat R c' r') : c = c' ∧ r = r' := by
  have h1 := flat_le.1 (le_of_eq h)
  have h2 := flat_le.1 (le_of_eq h.symm)
  rcases h1 with h1 | h1 <;> rcases h2 with h2 | h2
  · exact absurd h1 (not_lt.mpr h2.le)
  · exact absurd h2.1.symm (ne_of_lt h1)
  · exact absurd h1.1.symm (ne_of_lt h2)
  · exact ⟨h1.1, le_antisymm h1.2 h2.2⟩

/-- A table whose rows descend within each class, and the places in the order: largest value first, equal values by
    place. -/
structure Table (v : Fin C → Fin R → α) (ρ : Fin (C * R) → Fin (C * R)) : Prop where
  desc : ∀ c r r', r ≤ r' → v c r' ≤ v c r
  surj : Function.Surjective ρ
  inj : Function.Injective ρ
  le : ∀ i j, i < j → ∀ c r c' r', ρ i = flat R c r → ρ j = flat R c' r' →
    v c' r' < v c r ∨ (v c r = v c' r' ∧ flat R c r < flat R c' r')

variable {v : Fin C → Fin R → α} {ρ : Fin (C * R) → Fin (C * R)}

/-- The rows before a row in its class stand before it: the `t`-th place of the order is among the first `t + 1` rows. -/
theorem Table.row_le (h : Table v ρ) (t : Fin (C * R)) {c : Fin C} {r : Fin R} (he : ρ t = flat R c r) :
    (r : ℕ) ≤ t := by
  -- the positions of the rows 0 … r - 1 are distinct and below `t`
  have hpos : ∀ r' : Fin R, r' < r → ∃ i, i < t ∧ ρ i = flat R c r' := by
    intro r' hr'
    obtain ⟨i, hi⟩ := h.surj (flat R c r')
    refine ⟨i, ?_, hi⟩
    rcases lt_trichotomy i t with h1 | h1 | h1
    · exact h1
    · subst h1
      exact absurd (flat_inj (hi.symm.trans he)).2 (ne_of_lt hr')
    · rcases h.le t i h1 c r c r' he hi with h2 | h2
      · exact absurd (h.desc c r' r hr'.le) (not_le.mpr h2)
      · have := flat_le.1 h2.2.le
        rcases this with h3 | h3
        · exact absurd h3 (lt_irrefl _)
        · exact absurd hr' (not_lt.mpr h3.2)
  have hc : Function.Injective (fun r' : Fin r =>
      (⟨(hpos ⟨r', lt_trans r'.2 r.2⟩ r'.2).choose, (hpos ⟨r', lt_trans r'.2 r.2⟩ r'.2).choose_spec.1⟩ : Fin t)) := by
    intro a b hab
    have h1 := (hpos ⟨a, lt_trans a.2 r.2⟩ a.2).choose_spec.2
    have h2 := (hpos ⟨b, lt_trans b.2 r.2⟩ b.2).choose_spec.2
    have h3 : (hpos ⟨a, lt_trans a.2 r.2⟩ a.2).choose = (hpos ⟨b, lt_trans b.2 r.2⟩ b.2).choose :=
      Fin.ext (Fin.mk.inj hab)
    rw [h3] at h1
    have h4 := (flat_inj (h1.symm.trans h2)).2
    exact Fin.ext (Fin.mk.inj h4)
  have := Fintype.card_le_of_injective _ hc
  simpa using this

open Classical in
/-- The values of the first `W` rows of each class after `t` rounds: a taken place holds `lo`. -/
noncomputable def tableAt (hW : W ≤ R) (lo : α) (v : Fin C → Fin R → α) (ρ : Fin (C * R) → Fin (C * R)) (t : ℕ)
    (c : Fin C) (r : Fin W) : α :=
  if ∃ s : Fin (C * R), (s : ℕ) < t ∧ ρ s = flat R c (Fin.castLE hW r) then lo else v c (Fin.castLE hW r)

/-- Nothing is taken at the start. -/
theorem tableAt_zero (hW : W ≤ R) (lo : α) (c : Fin C) (r : Fin W) :
    tableAt hW lo v ρ 0 c r = v c (Fin.castLE hW r) := by
  unfold tableAt
  rw [if_neg]
  rintro ⟨s, hs, _⟩
  exact Nat.not_lt_zero _ hs

/-- The first place with the largest value is the round's place in the order. -/
theorem Table.pick (h : Table v ρ) (hW : W ≤ R) {lo : α} (hlo : ∀ c r, lo < v c r) {t : Fin (C * R)} (ht : (t : ℕ) < W)
    {m : α} (hm : ∀ c r, tableAt hW lo v ρ t c r ≤ m)
    {c : Fin C} {r : Fin W} (hp : tableAt hW lo v ρ t c r = m)
    (hp' : ∀ c' r', tableAt hW lo v ρ t c' r' = m → flat W c r ≤ flat W c' r') :
    ρ t = flat R c (Fin.castLE hW r) := by
  obtain ⟨c0, r0, h0⟩ := flat_surj (ρ t)
  have hr0 : (r0 : ℕ) < W := lt_of_le_of_lt (h.row_le t h0.symm) ht
  have h0' : ρ t = flat R c0 (Fin.castLE hW ⟨r0, hr0⟩) := h0.symm
  have hv0 : tableAt hW lo v ρ t c0 ⟨r0, hr0⟩ = v c0 (Fin.castLE hW ⟨r0, hr0⟩) := by
    unfold tableAt
    rw [if_neg]
    rintro ⟨s, hs, he⟩
    have := h.inj (he.trans h0'.symm)
    rw [this] at hs
    exact lt_irrefl _ hs
  have h0m : v c0 (Fin.castLE hW ⟨r0, hr0⟩) ≤ m := hv0 ▸ hm c0 ⟨r0, hr0⟩
  have hun : ¬ ∃ s : Fin (C * R), (s : ℕ) < t ∧ ρ s = flat R c (Fin.castLE hW r) := by
    intro hex
    unfold tableAt at hp
    rw [if_pos hex] at hp
    exact absurd (hp ▸ h0m) (not_le.mpr (hlo _ _))
  have hpv : v c (Fin.castLE hW r) = m := by
    unfold tableAt at hp
    rwa [if_neg hun] at hp
  obtain ⟨i, hi⟩ := h.surj (flat R c (Fin.castLE hW r))
  rcases lt_trichotomy i t with h1 | h1 | h1
  · exact absurd ⟨i, h1, hi⟩ hun
  · rw [← h1, hi]
  · rcases h.le t i h1 _ _ _ _ h0' hi with h2 | h2
    · rw [hpv] at h2
      exact absurd h0m (not_le.mpr h2)
    · have h3 := hp' c0 ⟨r0, hr0⟩ (hv0.trans (h2.1.trans hpv))
      have h4 : flat R c (Fin.castLE hW r) ≤ flat R c0 (Fin.castLE hW ⟨r0, hr0⟩) := by
        rcases flat_le.1 h3 with h5 | h5
        · exact flat_le.2 (Or.inl h5)
        · exact flat_le.2 (Or.inr ⟨h5.1, h5.2⟩)
      exact absurd h2.2 (not_lt.mpr h4)

open Classical in
/-- One round on the table: the round's place is taken. -/
theorem Table.step (h : Table v ρ) (hW : W ≤ R) {lo : α} {t : Fin (C * R)}
    {c : Fin C} {r : Fin W} (hp : ρ t = flat R c (Fin.castLE hW r)) (c' : Fin C) (r' : Fin W) :
    (if c' = c ∧ r' = r then lo else tableAt hW lo v ρ t c' r') = tableAt hW lo v ρ (t + 1) c' r' := by
  by_cases hc : c' = c ∧ r' = r
  · obtain ⟨rfl, rfl⟩ := hc
    rw [if_pos ⟨rfl, rfl⟩]
    unfold tableAt
    rw [if_pos ⟨t, Nat.lt_succ_self _, hp⟩]
  · rw [if_neg hc]
    unfold tableAt
    refine if_congr ⟨fun ⟨s, hs, he⟩ => ⟨s, Nat.lt_succ_of_lt hs, he⟩, fun ⟨s, hs, he⟩ => ?_⟩ rfl rfl
    rcases Nat.lt_succ_iff_lt_or_eq.mp hs with h1 | h1
    · exact ⟨s, h1, he⟩
    · have : s = t := Fin.ext h1
      rw [this, hp] at he
      obtain ⟨h2, h3⟩ := flat_inj he
      exact absurd ⟨h2.symm, (Fin.ext (Fin.mk.inj h3) : r = r').symm⟩ hc

end Stage2

end Cert.Proof.Greedy

end
-- ==== Proof.Spec.lean ====
/-
  The quantities of the problem, over extended reals: areas, overlaps, one class of one image, and its chosen rows.
-/
module

public import proofs.«01_k».proof.Proof.Greedy
public import Idealize.ShloMosaic.PureOps.Ideal
public import Idealize.ShloMosaic.PureOps.Ideal.Laws

@[expose] public section

noncomputable section

namespace Cert.Proof.Spec

open Idealize.ShloMosaic

/-- The confidence a box must exceed. -/
abbrev half : EReal := Ideal.ofBits .f32 1056964608#32
/-- The overlap above which a box suppresses another. -/
abbrev thr : EReal := Ideal.ofBits .f32 1055286886#32
/-- The least union an overlap is divided by. -/
abbrev eps : EReal := Ideal.ofBits .f32 730643660#32
/-- The score of a lane that is out of the running. -/
abbrev out : EReal := Ideal.ofBits .f32 3212836864#32

/-- The confidence bound is positive. -/
theorem half_pos : 0 < half := by
  simp [half, Ideal.ofBits, Ideal.ieee]
  rw [← EReal.coe_mul]
  exact_mod_cast (by positivity : (0 : ℝ) < _)

/-- The score of a lane out of the running is negative. -/
theorem out_neg : out < 0 := by
  simp [out, Ideal.ofBits, Ideal.ieee]
  rw [← EReal.coe_mul]
  exact_mod_cast (by positivity : (0 : ℝ) < _)

/-- A box's area, from its corners. -/
def area (ya xa yb xb : EReal) : EReal := max (yb - ya) 0 * max (xb - xa) 0

/-- The overlap of two boxes over their union. -/
def iou (ya xa yb xb yc xc yd xd : EReal) : EReal :=
  if 0 < area ya xa yb xb + area yc xc yd xd - max (min yb yd - max ya yc) 0 * max (min xb xd - max xa xc) 0 then
    Ideal.div (max (min yb yd - max ya yc) 0 * max (min xb xd - max xa xc) 0)
      (max (area ya xa yb xb + area yc xc yd xd - max (min yb yd - max ya yc) 0 * max (min xb xd - max xa xc) 0) eps)
  else 0

/-- It does not depend on the order of the two boxes. -/
theorem iou_comm (ya xa yb xb yc xc yd xd : EReal) : iou ya xa yb xb yc xc yd xd = iou yc xc yd xd ya xa yb xb := by
  unfold iou
  rw [add_comm (area ya xa yb xb), min_comm yb, max_comm ya, min_comm xb, max_comm xa]

/-- One class of one image: the class number, and each box's score, corners and extra value. -/
structure Boxes (n : ℕ) where
  cls : EReal
  conf : Fin n → EReal
  ymin : Fin n → EReal
  xmin : Fin n → EReal
  ymax : Fin n → EReal
  xmax : Fin n → EReal
  extra : Fin n → EReal

variable {n : ℕ}

/-- A box is considered when its confidence is high enough. -/
def Boxes.valid (B : Boxes n) (x : Fin n) : Prop := half < B.conf x

/-- A box suppresses another by overlapping it too much. -/
def Boxes.sup (B : Boxes n) (x y : Fin n) : Prop :=
  thr < iou (B.ymin x) (B.xmin x) (B.ymax x) (B.xmax x) (B.ymin y) (B.xmin y) (B.ymax y) (B.xmax y)

/-- Field `f` of box `x`'s row. -/
def Boxes.field (B : Boxes n) (f : Fin 8) (x : Fin n) : EReal :=
  match f with
  | 0 => B.cls
  | 1 => B.conf x
  | 2 => B.xmin x
  | 3 => B.ymin x
  | 4 => B.xmax x
  | 5 => B.ymax x
  | 6 => B.extra x
  | 7 => 0

open Classical in
/-- Field `f` of the `r`-th chosen row: the `r`-th kept box's, zero when there is none. -/
def Boxes.row (B : Boxes n) (keep : Fin n → Prop) (σ τ : Fin n → Fin n) (f : Fin 8) (r : Fin n) : EReal :=
  if keep (τ r) then B.field f (σ (τ r)) else 0

/-- The place of the order's `t`-th entry, as a class and a row of 400, read in a table. -/
def ordered (val : Fin 8 → Fin 20 → Fin 400 → EReal) (ρ : Fin (20 * 400) → Fin (20 * 400)) (f : Fin 8) (t : Fin 200) : EReal :=
  val f (ρ (t.castLE (by decide))).divNat (ρ (t.castLE (by decide))).modNat

/-- It is the value at the entry's class and row. -/
theorem ordered_eq (val : Fin 8 → Fin 20 → Fin 400 → EReal) (ρ : Fin (20 * 400) → Fin (20 * 400)) (f : Fin 8) (t : Fin 200)
    {c : Fin 20} {r : Fin 400} (h : ρ (t.castLE (by decide)) = Greedy.flat 400 c r) : ordered val ρ f t = val f c r := by
  have hv : (Greedy.flat 400 c r : ℕ) = c * 400 + r := rfl
  have h1 : (Greedy.flat 400 c r).divNat = c := Fin.ext (by
    show (Greedy.flat 400 c r : ℕ) / 400 = c
    have := r.isLt
    omega)
  have h2 : (Greedy.flat 400 c r).modNat = r := Fin.ext (by
    show (Greedy.flat 400 c r : ℕ) % 400 = r
    have := r.isLt
    omega)
  unfold ordered
  rw [h, h1, h2]

/-- One class of one image, read off the argument `X b l j` (image, box, column): a box's columns are one score a class from
    column 1, four corners a class from column 21, and the extra value in column 101. -/
def boxes (X : Fin 4 → Fin 5000 → Fin 102 → EReal) (b : Fin 4) (c : Fin 20) : Boxes 5000 where
  cls := FloatOps.sitofp (F := Ideal) FTy.f32 (BitVec.ofNat 32 ((c : ℕ) + 1))
  conf l := X b l ⟨1 + c, by omega⟩
  xmin l := X b l ⟨21 + (c * 4 + 0), by omega⟩
  ymin l := X b l ⟨21 + (c * 4 + 1), by omega⟩
  xmax l := X b l ⟨21 + (c * 4 + 2), by omega⟩
  ymax l := X b l ⟨21 + (c * 4 + 3), by omega⟩
  extra l := X b l 101

/-- Image `b`'s table: the first 400 chosen rows of each class. -/
def table (X : Fin 4 → Fin 5000 → Fin 102 → EReal) (keep : Fin 4 → Fin 20 → Fin 5000 → Prop) (σ τ : Fin 4 → Fin 20 → Fin 5000 → Fin 5000)
    (b : Fin 4) (f : Fin 8) (c : Fin 20) (r : Fin 400) : EReal :=
  (boxes X b c).row (keep b c) (σ b c) (τ b c) f (r.castLE (by decide))

open Greedy in
/-- What makes a choice of boxes and orders the problem's: in each class of each image the boxes are ordered by score, the
    kept ones are those that no earlier kept one suppresses, and each image's chosen rows are ordered by score. -/
structure Solution (X : Fin 4 → Fin 5000 → Fin 102 → EReal) (keep : Fin 4 → Fin 20 → Fin 5000 → Prop)
    (σ τ : Fin 4 → Fin 20 → Fin 5000 → Fin 5000) (ρ : Fin 4 → Fin (20 * 400) → Fin (20 * 400)) : Prop where
  sorted : ∀ b c, Sorted (boxes X b c).valid (boxes X b c).sup (keep b c) (σ b c) (τ b c)
  byScore : ∀ b c, ByScore out (boxes X b c).conf (boxes X b c).valid (σ b c)
  table : ∀ b, Table (table X keep σ τ b 1) (ρ b)

/-- The answer: row `t`, field `f` of image `b`. -/
def answer (X : Fin 4 → Fin 5000 → Fin 102 → EReal) (keep : Fin 4 → Fin 20 → Fin 5000 → Prop) (σ τ : Fin 4 → Fin 20 → Fin 5000 → Fin 5000)
    (ρ : Fin 4 → Fin (20 * 400) → Fin (20 * 400)) (b : Fin 4) (t : Fin 200) (f : Fin 7) : EReal :=
  ordered (table X keep σ τ b) (ρ b) (f.castLE (by decide)) t

end Cert.Proof.Spec

end
-- ==== Proof.KernelIdealPick.lean ====
/-
  One round of the kernel: which lane it picks, and what becomes of the scores and the rows.
-/
module

public import proofs.«01_k».proof.Proof.KernelIdealBody
public import proofs.«01_k».proof.Proof.Words
public import proofs.«01_k».proof.Proof.Spec
public import Idealize.ShloMosaic.Lib.Pointwise

@[expose] public section

noncomputable section

namespace Cert.Proof.KernelIdeal

open Cert.KernelIdeal Cert.KernelIdeal.Gen

open Idealize.ShloMosaic
open Idealize.ShloMosaic.TcCoe Idealize.ShloMosaic.Tactic
open Cert.Proof.Words Cert.Proof.Spec

/-- The lane numbers. -/
abbrev lanes : IVec S80x5120 32 := iota Kind.tc S80x5120 32 [1] iota_S80x5120_d1_w32

/-- The round's pick in row `p`: the first lane `q` with the largest score. The largest score is read off the row, and
    the selection marks that lane alone. -/
theorem pick_lane (s : FVec Ideal S80x5120 .f32) (p : Fin 80) : ∃ q : Fin 5120,
    k0_pay15 s (ix2 p 0) = s (ix2 p q) ∧ (∀ l, s (ix2 p l) ≤ s (ix2 p q)) ∧ (∀ l, s (ix2 p l) = s (ix2 p q) → (q : ℕ) ≤ l)
      ∧ ∀ l, k0_pay16 lanes s (ix2 p l) = if l = q then 1#1 else 0#1 := by
  have h15 : k0_pay15 s (ix2 p 0) = Finset.fold max (Ideal.ofBits FTy.f32 4286578688#32) (fun x => s (ix2 p x)) Finset.univ := by
    pointwise [k0_pay15]
  obtain ⟨⟨q0, hq0⟩, hmax⟩ := fold_max_spec (fun x : Fin 5120 => s (ix2 p x))
  rw [← h15] at hq0 hmax
  obtain ⟨q, hq, hleast⟩ := exists_least (fun x : Fin 5120 => s (ix2 p x) = k0_pay15 s (ix2 p 0)) (fun x => (x : ℕ)) ⟨q0, hq0⟩
  refine ⟨q, hq.symm, fun l => hq ▸ hmax l, fun l hl => hleast l (hl.trans hq), fun l => ?_⟩
  have e : (fun x : Fin 5120 => if s (ix2 p x) = k0_pay15 s (ix2 p 0) then BitVec.ofNat 32 (x : ℕ) else 5120#32)
      = fun x => BitVec.ofNat 32 (if s (ix2 p x) = k0_pay15 s (ix2 p 0) then (x : ℕ) else 5120) :=
    funext fun x => by split <;> rfl
  have h16 : k0_pay16 lanes s (ix2 p l) = IntOp.cmpi CmpIPredicate.eq (BitVec.ofNat 32 (l : ℕ))
      (Finset.fold IntOp.minsi (2147483647#32)
        (fun x : Fin 5120 => if s (ix2 p x) = k0_pay15 s (ix2 p 0) then BitVec.ofNat 32 (x : ℕ) else 5120#32) Finset.univ) := by
    pointwise [k0_pay16, lanes]
  have hb : ∀ x : Fin 5120, (if s (ix2 p x) = k0_pay15 s (ix2 p 0) then (x : ℕ) else 5120) < 2147483648 := fun x => by
    have := x.isLt
    split <;> omega
  have hl : ∀ x : Fin 5120, (if s (ix2 p q) = k0_pay15 s (ix2 p 0) then (q : ℕ) else 5120)
      ≤ if s (ix2 p x) = k0_pay15 s (ix2 p 0) then (x : ℕ) else 5120 := fun x => by
    rw [if_pos hq]
    split
    · next hx => exact hleast x hx
    · exact q.isLt.le
  rw [h16, e, fold_minsi_eq _ hb q hl, if_pos hq, cmpi_eq_ofNat (by have := l.isLt; omega) (by have := q.isLt; omega)]
  by_cases hlq : l = q
  · rw [if_pos hlq, if_pos (congrArg Fin.val hlq)]
  · rw [if_neg hlq, if_neg fun e => hlq (Fin.ext e)]

/-- A sum of a row's values under a mark on one lane alone is the value there. -/
theorem sum_mark {N : ℕ} (mark : Fin N → BitVec 1) (x : Fin N → EReal) (q : Fin N) (h : ∀ l, mark l = if l = q then 1#1 else 0#1) :
    ∑ l, Scalar.select (mark l) (x l) 0 = x q := by
  rw [Finset.sum_eq_single q]
  · rw [h, if_pos rfl]; rfl
  · intro l _ hl; rw [h, if_neg hl]; rfl
  · intro hq; exact absurd (Finset.mem_univ _) hq

/-- A value of the picked box, gathered under the mark. -/
theorem pay17_apply (x s : FVec Ideal S80x5120 .f32) (p : Fin 80) (q : Fin 5120)
    (h : ∀ l, k0_pay16 lanes s (ix2 p l) = if l = q then 1#1 else 0#1) : k0_pay17 x lanes s (ix2 p 0) = x (ix2 p q) := by
  have e : k0_pay17 x lanes s (ix2 p 0) = ∑ l, Scalar.select (k0_pay16 lanes s (ix2 p l)) (x (ix2 p l)) 0 := by
    pointwise [k0_pay17]
  rw [e]
  exact sum_mark _ _ q h

/-- The other four values are gathered in the same way. -/
theorem gather_eq (x s : FVec Ideal S80x5120 .f32) :
    k0_pay18 x lanes s = k0_pay17 x lanes s ∧ k0_pay19 x lanes s = k0_pay17 x lanes s
      ∧ k0_pay20 x lanes s = k0_pay17 x lanes s ∧ k0_pay21 x lanes s = k0_pay17 x lanes s := ⟨rfl, rfl, rfl, rfl⟩

/-- The picked box's area, from its gathered corners. -/
theorem pay22_apply (ymin xmin ymax xmax s : FVec Ideal S80x5120 .f32) (p : Fin 80) (q : Fin 5120)
    (h : ∀ l, k0_pay16 lanes s (ix2 p l) = if l = q then 1#1 else 0#1) :
    k0_pay22 ymin xmin ymax xmax lanes s (ix2 p 0) = area (ymin (ix2 p q)) (xmin (ix2 p q)) (ymax (ix2 p q)) (xmax (ix2 p q)) := by
  rw [← pay17_apply ymin s p q h, ← pay17_apply xmin s p q h, ← pay17_apply ymax s p q h, ← pay17_apply xmax s p q h]
  unfold area
  pointwise [k0_pay22]
  rw [(gather_eq ymax s).2.1, (gather_eq xmax s).2.2.1, (gather_eq xmin s).1]

/-- How far the picked box and box `l` overlap downwards. -/
theorem pay23_apply (ymin ymax s : FVec Ideal S80x5120 .f32) (p : Fin 80) (q l : Fin 5120)
    (h : ∀ l, k0_pay16 lanes s (ix2 p l) = if l = q then 1#1 else 0#1) :
    k0_pay23 ymin ymax lanes s (ix2 p l)
      = min (ymax (ix2 p q)) (ymax (ix2 p l)) - max (ymin (ix2 p q)) (ymin (ix2 p l)) := by
  rw [← pay17_apply ymin s p q h, ← pay17_apply ymax s p q h]
  pointwise [k0_pay23]
  rw [(gather_eq ymax s).2.1]

/-- Zeros. -/
theorem pay24_apply (j : S80x5120.Idx) : (k0_pay24 : FVec Ideal S80x5120 .f32) j = 0 := by
  pointwise [k0_pay24]

/-- Choosing under "over the threshold or marked" is a choice between the two cases. -/
theorem select_mark (a o b x : EReal) (P : Prop) [Decidable P] [Decidable (a < b)] [Decidable (a < b ∨ P)] :
    Scalar.select (IntOp.ori (BitVec.ofBool (decide (a < b))) (if P then 1#1 else 0#1)) o x = if a < b ∨ P then o else x := by
  by_cases h1 : a < b <;> by_cases h2 : P <;> simp [h1, h2, Scalar.select, IntOp.ori]

/-- The overlap of the boxes at two lanes of row `p`. -/
abbrev iouAt (ymin xmin ymax xmax : FVec Ideal S80x5120 .f32) (p : Fin 80) (q l : Fin 5120) : EReal :=
  iou (ymin (ix2 p q)) (xmin (ix2 p q)) (ymax (ix2 p q)) (xmax (ix2 p q)) (ymin (ix2 p l)) (xmin (ix2 p l)) (ymax (ix2 p l)) (xmax (ix2 p l))

/-- One round on the scores of row `p`: the picked lane and every lane it overlaps too much go out of the running. -/
theorem step1_score (ymin xmin ymax xmax extra ar : FVec Ideal S80x5120 .f32) (k : Fin k0_t1_loop.trips)
    (acc : FVec Ideal S80x5120 .f32 × FVec Ideal S80x8x200 .f32) (p : Fin 80) (q l : Fin 5120)
    (har : ar (ix2 p l) = area (ymin (ix2 p l)) (xmin (ix2 p l)) (ymax (ix2 p l)) (xmax (ix2 p l)))
    (h : ∀ l, k0_pay16 lanes acc.1 (ix2 p l) = if l = q then 1#1 else 0#1) :
    (step1 ymin xmin ymax xmax extra ar lanes k acc).1 (ix2 p l)
      = open Classical in if thr < iouAt ymin xmin ymax xmax p q l ∨ l = q then out else acc.1 (ix2 p l) := by
  show k0_pay35 xmin xmax ar acc.1 (k0_pay16 lanes acc.1) (k0_pay18 xmin lanes acc.1) (k0_pay20 xmax lanes acc.1)
    (k0_pay22 ymin xmin ymax xmax lanes acc.1) (k0_pay23 ymin ymax lanes acc.1) k0_pay24 (ix2 p l) = _
  rw [(gather_eq xmin acc.1).1, (gather_eq xmax acc.1).2.2.1]
  pointwise [k0_pay35]
  rw [pay17_apply xmin acc.1 p q h, pay17_apply xmax acc.1 p q h, pay22_apply ymin xmin ymax xmax acc.1 p q h,
    pay23_apply ymin ymax acc.1 p q l h, pay24_apply, har, h l]
  exact select_mark thr out (iouAt ymin xmin ymax xmax p q l) (acc.1 (ix2 p l)) (l = q)

/-- The class number of row `p`, as a word. -/
theorem class_word (p : Fin 80) :
    IntOp.addi (Scalar.select (k0_pay33 (ix2 p 0)) (IntOp.addi (k0_pay32 (ix2 p 0)) 20#32) (k0_pay32 (ix2 p 0))) 1#32
      = BitVec.ofNat 32 ((p : ℕ) % 20 + 1) := by
  revert p
  pointwise [k0_pay33, k0_pay32]
  decide +kernel

/-- One round on the rows: column `k` receives the picked box's fields while the largest score is positive, else zeros. -/
theorem step1_rows (ymin xmin ymax xmax extra ar : FVec Ideal S80x5120 .f32) (k : Fin k0_t1_loop.trips)
    (acc : FVec Ideal S80x5120 .f32 × FVec Ideal S80x8x200 .f32) (p : Fin 80) (q : Fin 5120) (f : Fin 8) (t : Fin 200)
    (hm : k0_pay15 acc.1 (ix2 p 0) = acc.1 (ix2 p q))
    (h : ∀ l, k0_pay16 lanes acc.1 (ix2 p l) = if l = q then 1#1 else 0#1) :
    (step1 ymin xmin ymax xmax extra ar lanes k acc).2 (ix3 p f t)
      = if (t : ℕ) = k then
          (if 0 < acc.1 (ix2 p q) then
            (match f with
              | 0 => FloatOps.sitofp (F := Ideal) FTy.f32 (BitVec.ofNat 32 ((p : ℕ) % 20 + 1))
              | 1 => acc.1 (ix2 p q)
              | 2 => xmin (ix2 p q)
              | 3 => ymin (ix2 p q)
              | 4 => xmax (ix2 p q)
              | 5 => ymax (ix2 p q)
              | 6 => extra (ix2 p q)
              | 7 => 0)
          else 0)
        else acc.2 (ix3 p f t) := by
  show k0_pay36 20#32 k0_pay32 k0_pay33 acc.2 (Scf.iv 0#32 1#32 k) (k0_pay15 acc.1) (k0_pay17 ymin lanes acc.1) (k0_pay18 xmin lanes acc.1)
    (k0_pay19 ymax lanes acc.1) (k0_pay20 xmax lanes acc.1) (k0_pay21 extra lanes acc.1) (ix3 p f t) = _
  rw [(gather_eq xmin acc.1).1, (gather_eq ymax acc.1).2.1, (gather_eq xmax acc.1).2.2.1, (gather_eq extra acc.1).2.2.2]
  pointwise [k0_pay36]
  have hk : Scf.iv 0#32 1#32 (k : ℕ) = BitVec.ofNat 32 k := by simp [Scf.iv]
  rw [hk, cmpi_eq_ofNat (by have := t.isLt; omega) (by have h1 := k.isLt; have h2 : k0_t1_loop.trips = 200 := (by decide +kernel); omega)]
  by_cases htk : (t : ℕ) = k
  · rw [if_pos htk, if_pos htk]
    rw [hm]
    by_cases hpos : 0 < acc.1 (ix2 p q)
    · rw [if_pos hpos, if_pos hpos]
      have h17 := fun x => pay17_apply x acc.1 p q h
      rw [← hm, ← h17 xmin, ← h17 ymin, ← h17 xmax, ← h17 ymax, ← h17 extra, ← class_word p]
      fin_cases f <;> rfl
    · rw [if_neg hpos, if_neg hpos]
      rfl
  · rw [if_neg htk, if_neg htk]
    rfl

end Cert.Proof.KernelIdeal

end
-- ==== Proof.KernelIdealOut.lean ====
/-
  What the kernel body leaves in the output block, as a function of its input blocks.
-/
module

public import proofs.«01_k».proof.Proof.KernelIdealBody
public import Idealize.ShloMosaic.Lib.Pipeline.Value
public import Idealize.ShloMosaic.Lib.Pipeline.ValueKit
public import Idealize.ShloMosaic.Lib.Pointwise

@[expose] public section

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F]

/-- The rows picked from every class of every image, of the six input blocks. -/
def rowsOf (x0 x1 x2 x3 x4 x5 : Vec F S80x5120 .f32) : FVec F S80x8x200 .f32 :=
  (loop1 x1 x2 x3 x4 x5 (k0_pay30 x0) (k0_pay31 x1 x2 x3 x4) (iota Kind.tc S80x5120 32 [1] iota_S80x5120_d1_w32)).2

/-- Image 0's result: 200 rounds of taking the best row left. -/
def img0 (rows : FVec F S80x8x200 .f32) : FVec F S8x200 .f32 :=
  (Scf.fold (fun (k : Fin k0_t2_loop.trips) (acc : FVec F S20x200 .f32 × FVec F S8x200 .f32) =>
    (k0_pay42 acc.1, k0_pay43 rows k acc.1 acc.2)) (k0_pay39 rows, k0_pay40)).2

/-- Image 1's result. -/
def img1 (rows : FVec F S80x8x200 .f32) : FVec F S8x200 .f32 :=
  (Scf.fold (fun (k : Fin k0_t3_loop.trips) (acc : FVec F S20x200 .f32 × FVec F S8x200 .f32) =>
    (k0_pay49 acc.1, k0_pay50 rows k acc.1 acc.2)) (k0_pay46 rows, k0_pay47)).2

/-- Image 2's result. -/
def img2 (rows : FVec F S80x8x200 .f32) : FVec F S8x200 .f32 :=
  (Scf.fold (fun (k : Fin k0_t4_loop.trips) (acc : FVec F S20x200 .f32 × FVec F S8x200 .f32) =>
    (k0_pay5 k0_pay37 acc.1, k0_pay6 rows k0_pay37 (iota .tc S1x200 32 [1] iota_S1x200_d1_w32) k acc.1 acc.2))
    (k0_pay2 rows, k0_pay3)).2

/-- Image 3's result. -/
def img3 (rows : FVec F S80x8x200 .f32) : FVec F S8x200 .f32 :=
  (Scf.fold (fun (k : Fin k0_t5_loop.trips) (acc : FVec F S20x200 .f32 × FVec F S8x200 .f32) =>
    (k0_pay12 k0_pay37 acc.1, k0_pay13 rows k0_pay37 (iota .tc S1x200 32 [1] iota_S1x200_d1_w32) k acc.1 acc.2))
    (k0_pay9 rows, k0_pay10)).2

/-- The four stores of the body, the last first. -/
abbrev stores (rows : FVec F S80x8x200 .f32) : List (View.Piece (Elt F) S4x8x200 .f32) :=
  [⟨Rect.unit ![3, 0, 0] S1x8x200.size inb_S4x8x200_S1x8x200_3_0_0, k0_pay14 (img3 rows)⟩,
   ⟨Rect.unit ![2, 0, 0] S1x8x200.size inb_S4x8x200_S1x8x200_2_0_0, k0_pay7 (img2 rows)⟩,
   ⟨Rect.unit ![1, 0, 0] S1x8x200.size inb_S4x8x200_S1x8x200_1_0_0, k0_pay51 (img1 rows)⟩,
   ⟨Rect.unit ![0, 0, 0] S1x8x200.size inb_S4x8x200_S1x8x200_0_0_0, k0_pay44 (img0 rows)⟩]

/-- Offsets of zero. -/
theorem hz : (![0, 0] : Fin 2 → Nat) = fun _ => 0 := funext fun a => by fin_cases a <;> rfl

/-- The output block after the body, as its four stores. -/
theorem kernelRun_stores (c : Dev nD) (M0 : Memref sig .tc .vmem S80x5120 .f32) (h0 : M0.IsWhole) (M1 : Memref sig .tc .vmem S80x5120 .f32) (h1 : M1.IsWhole) (M2 : Memref sig .tc .vmem S80x5120 .f32) (h2 : M2.IsWhole) (M3 : Memref sig .tc .vmem S80x5120 .f32) (h3 : M3.IsWhole) (M4 : Memref sig .tc .vmem S80x5120 .f32) (h4 : M4.IsWhole) (M5 : Memref sig .tc .vmem S80x5120 .f32) (h5 : M5.IsWhole) (M6 : Memref sig .tc .vmem S4x8x200 .f32) (h6 : M6.IsWhole) (x0 x1 x2 x3 x4 x5 : Vec F S80x5120 .f32) :
    (kernelRun c M0 h0 M1 h1 M2 h2 M3 h3 M4 h4 M5 h5 M6 h6 x0 x1 x2 x3 x4 x5).1 = View.read (Elt F) M6.view
      (M6.view.writes (Elt F) M6.view.junk (stores (rowsOf x0 x1 x2 x3 x4 x5))) := by
  unfold kernelRun
  dsimp only
  sl_unfold_words
  have e0 : View.readAt (Elt F) M0.view (Rect.unit ![0, 0] S80x5120.size inb_S80x5120_S80x5120_0_0).toLoadRect (h0.unread x0) = x0 := by
    rw [View.readAt_eq_ld, h0.read_unread, View.ld_unit_zero (S := S80x5120) hz]
  have e1 : View.readAt (Elt F) M1.view (Rect.unit ![0, 0] S80x5120.size inb_S80x5120_S80x5120_0_0).toLoadRect (h1.unread x1) = x1 := by
    rw [View.readAt_eq_ld, h1.read_unread, View.ld_unit_zero (S := S80x5120) hz]
  have e2 : View.readAt (Elt F) M2.view (Rect.unit ![0, 0] S80x5120.size inb_S80x5120_S80x5120_0_0).toLoadRect (h2.unread x2) = x2 := by
    rw [View.readAt_eq_ld, h2.read_unread, View.ld_unit_zero (S := S80x5120) hz]
  have e3 : View.readAt (Elt F) M3.view (Rect.unit ![0, 0] S80x5120.size inb_S80x5120_S80x5120_0_0).toLoadRect (h3.unread x3) = x3 := by
    rw [View.readAt_eq_ld, h3.read_unread, View.ld_unit_zero (S := S80x5120) hz]
  have e4 : View.readAt (Elt F) M4.view (Rect.unit ![0, 0] S80x5120.size inb_S80x5120_S80x5120_0_0).toLoadRect (h4.unread x4) = x4 := by
    rw [View.readAt_eq_ld, h4.read_unread, View.ld_unit_zero (S := S80x5120) hz]
  have e5 : View.readAt (Elt F) M5.view (Rect.unit ![0, 0] S80x5120.size inb_S80x5120_S80x5120_0_0).toLoadRect (h5.unread x5) = x5 := by
    rw [View.readAt_eq_ld, h5.read_unread, View.ld_unit_zero (S := S80x5120) hz]
  have p25 : ∀ x : Vec F S80x5120 .f32, k0_pay25 x = x := fun x => shapeCast_self _ _
  have p26 : ∀ x : Vec F S80x5120 .f32, k0_pay26 x = x := fun x => shapeCast_self _ _
  have p27 : ∀ x : Vec F S80x5120 .f32, k0_pay27 x = x := fun x => shapeCast_self _ _
  have p28 : ∀ x : Vec F S80x5120 .f32, k0_pay28 x = x := fun x => shapeCast_self _ _
  have p29 : ∀ x : Vec F S80x5120 .f32, k0_pay29 x = x := fun x => shapeCast_self _ _
  rw [e0, e1, e2, e3, e4, e5, p25, p26, p27, p28, p29]
  rfl

/-- Image `b`'s result. -/
def img (rows : FVec F S80x8x200 .f32) : Fin 4 → FVec F S8x200 .f32
  | 0 => img0 rows
  | 1 => img1 rows
  | 2 => img2 rows
  | 3 => img3 rows

/-- A stored block at an index is the image's result there. -/
theorem block_apply (y : FVec F S8x200 .f32) (j : S1x8x200.Idx) :
    shapeCast S1x8x200 y shapeCasts_S8x200_S1x8x200 j = y (ix2 (j 1) (j 2)) := by
  idx_vars j
  pointwise

/-- One stored block, wherever it holds an index, holds its image's result there. -/
theorem tile (y : FVec F S8x200 .f32) (w : FVec F S1x8x200 .f32) (hw : w = shapeCast S1x8x200 y shapeCasts_S8x200_S1x8x200)
    (b b' : Fin 4) (f : Fin 8) (t : Fin 200) (v : F .f32) (hv : b' = b → y (ix2 f t) = v) (o : Fin 3 → Nat) (ho : o = ![b'.val, 0, 0]) :
    View.TileAt (Val := Elt F) (e := .f32) (ix3 b f t : S4x8x200.Idx) o S1x8x200.size w v := by
  intro x hx
  subst ho hw
  have hx' : ∀ a : Fin 3, ((ix3 b f t : S4x8x200.Idx) a : Nat) = (![b'.val, 0, 0] : Fin 3 → Nat) a + (x : S1x8x200.Idx) a := hx
  have h0 := hx' 0
  have h1 := hx' 1
  have h2 := hx' 2
  change S1x8x200.Idx at x
  obtain ⟨x0, x1, x2, rfl⟩ : ∃ x0 x1 x2, x = ix3 x0 x1 x2 := ⟨_, _, _, eq_ix3 x⟩
  have h0 : (b : ℕ) = b' + (x0 : ℕ) := h0
  have h1 : (f : ℕ) = 0 + (x1 : ℕ) := h1
  have h2 : (t : ℕ) = 0 + (x2 : ℕ) := h2
  rw [Nat.zero_add] at h1 h2
  rw [block_apply]
  have e1 : x1 = f := Fin.ext h1.symm
  have e2 : x2 = t := Fin.ext h2.symm
  subst e1 e2
  exact hv (Fin.ext (by omega))

/-- The output block after the body, at an index: the image's result. -/
theorem kernelRun_apply (c : Dev nD) (M0 : Memref sig .tc .vmem S80x5120 .f32) (h0 : M0.IsWhole) (M1 : Memref sig .tc .vmem S80x5120 .f32) (h1 : M1.IsWhole) (M2 : Memref sig .tc .vmem S80x5120 .f32) (h2 : M2.IsWhole) (M3 : Memref sig .tc .vmem S80x5120 .f32) (h3 : M3.IsWhole) (M4 : Memref sig .tc .vmem S80x5120 .f32) (h4 : M4.IsWhole) (M5 : Memref sig .tc .vmem S80x5120 .f32) (h5 : M5.IsWhole) (M6 : Memref sig .tc .vmem S4x8x200 .f32) (h6 : M6.IsWhole) (x0 x1 x2 x3 x4 x5 : Vec F S80x5120 .f32) (b : Fin 4) (f : Fin 8) (t : Fin 200) :
    (kernelRun c M0 h0 M1 h1 M2 h2 M3 h3 M4 h4 M5 h5 M6 h6 x0 x1 x2 x3 x4 x5).1 (ix3 b f t) = img (rowsOf x0 x1 x2 x3 x4 x5) b (ix2 f t) := by
  rw [kernelRun_stores]
  generalize rowsOf x0 x1 x2 x3 x4 x5 = rows
  rw [View.read_writes_eq_canon _ _ _ (View.cover_of_tiled (stores rows) S1x8x200.size rfl)]
  refine View.canon_eq_of_allAt _ _ _ (View.cover_of_tiled (stores rows) S1x8x200.size rfl _) ?_
  refine View.allAt_cons_unit _ _ _ _ _ (tile (img3 rows) _ rfl b 3 f t _ (fun h => by subst h; rfl) _ rfl) ?_
  refine View.allAt_cons_unit _ _ _ _ _ (tile (img2 rows) _ rfl b 2 f t _ (fun h => by subst h; rfl) _ rfl) ?_
  refine View.allAt_cons_unit _ _ _ _ _ (tile (img1 rows) _ rfl b 1 f t _ (fun h => by subst h; rfl) _ rfl) ?_
  refine View.allAt_cons_unit _ _ _ _ _ (tile (img0 rows) _ rfl b 0 f t _ (fun h => by subst h; rfl) _ rfl) ?_
  exact View.allAt_nil _ _

end Cert.Proof.KernelIdeal

end
-- ==== Proof.KernelIdealRows.lean ====
/-
  The rows chosen by the kernel in one class of one image.
-/
module

public import proofs.«01_k».proof.Proof.KernelIdealPick
public import proofs.«01_k».proof.Proof.KernelIdealOut

@[expose] public section

noncomputable section

namespace Cert.Proof.KernelIdeal

open Cert.KernelIdeal Cert.KernelIdeal.Gen

open Idealize.ShloMosaic
open Idealize.ShloMosaic.TcCoe Idealize.ShloMosaic.Tactic
open Cert.Proof.Words Cert.Proof.Spec Cert.Proof.Greedy

/-- A fact that holds at the start and is kept by each round holds after all rounds. -/
theorem fold_keeps {σ : Type} {n : ℕ} (g : Fin n → σ → σ) (init : σ) (Inv : ℕ → σ → Prop) (h0 : Inv 0 init)
    (hs : ∀ (k : Fin n) (acc : σ), Inv k acc → Inv ((k : ℕ) + 1) (g k acc)) : Inv n (Scf.fold g init) := by
  rw [Scf.fold_eq]
  induction n with
  | zero => simpa using h0
  | succ n ih =>
    rw [List.finRange_succ_last, List.foldl_append, List.foldl_map]
    exact hs (Fin.last n) _ (ih (fun k acc => g k.castSucc acc) fun k acc h => hs k.castSucc acc h)

/-- 5000 values in 5120 lanes, the last ones zero. -/
def padded (g : Fin 5000 → EReal) (l : Fin 5120) : EReal := if h : (l : ℕ) < 5000 then g ⟨l, h⟩ else 0

/-- A lane that is a box holds the box's value. -/
theorem padded_of_val (g : Fin 5000 → EReal) {l : Fin 5120} {x : Fin 5000} (h : (l : ℕ) = x) : padded g l = g x := by
  have hl : (l : ℕ) < 5000 := h ▸ x.isLt
  rw [padded, dif_pos hl]
  exact congrArg g (Fin.ext h)

/-- What row `p` of the six input blocks holds: one class of one image, its boxes in the first 5000 lanes. -/
structure Holds (B : Boxes 5000) (p : Fin 80) (x0 x1 x2 x3 x4 x5 : Vec Ideal S80x5120 .f32) : Prop where
  cls : B.cls = FloatOps.sitofp (F := Ideal) FTy.f32 (BitVec.ofNat 32 ((p : ℕ) % 20 + 1))
  conf : ∀ l, x0 (ix2 p l) = padded B.conf l
  ymin : ∀ l, x1 (ix2 p l) = padded B.ymin l
  xmin : ∀ l, x2 (ix2 p l) = padded B.xmin l
  ymax : ∀ l, x3 (ix2 p l) = padded B.ymax l
  xmax : ∀ l, x4 (ix2 p l) = padded B.xmax l
  extra : ∀ l, x5 (ix2 p l) = padded B.extra l

/-- What the loop carries after `t` rounds, in row `p`: the scores still in the running, and the first `t` chosen rows. -/
def AfterRounds (B : Boxes 5000) (keep : Fin 5000 → Prop) (σ τ : Fin 5000 → Fin 5000) (p : Fin 80) (t : ℕ)
    (acc : FVec Ideal S80x5120 .f32 × FVec Ideal S80x8x200 .f32) : Prop :=
  (∀ l, acc.1 (ix2 p l) = scoreAt 5120 out B.conf B.valid B.sup keep σ τ t l)
    ∧ ∀ (f : Fin 8) (r : Fin 200), acc.2 (ix3 p f r) = if (r : ℕ) < t then B.row keep σ τ f (r.castLE (by decide)) else 0

variable {B : Boxes 5000} {keep : Fin 5000 → Prop} {σ τ : Fin 5000 → Fin 5000} {p : Fin 80}
  {x0 x1 x2 x3 x4 x5 : Vec Ideal S80x5120 .f32}

/-- A considered box's score is above the mark of a lane out of the running, and positive. -/
theorem valid_pos {x : Fin 5000} (h : B.valid x) : 0 < B.conf x ∧ out < B.conf x :=
  ⟨half_pos.trans h, out_neg.trans (half_pos.trans h)⟩

/-- At the start: every considered box is in the running, no row is chosen. -/
theorem start (hx : Holds B p x0 x1 x2 x3 x4 x5) : AfterRounds B keep σ τ p 0 (k0_pay30 x0, k0_pay34) := by
  refine ⟨fun l => ?_, fun f r => ?_⟩
  · have e : k0_pay30 x0 (ix2 p l) = if half < x0 (ix2 p l) then x0 (ix2 p l) else out := by
      pointwise [k0_pay30]
    show k0_pay30 x0 (ix2 p l) = _
    rw [e, hx.conf l]
    by_cases hl : (l : ℕ) < 5000
    · rw [padded_of_val (x := ⟨l, hl⟩) B.conf rfl]
      by_cases hv : half < B.conf ⟨l, hl⟩
      · rw [if_pos hv, scoreAt_pos hl (alive_zero.mpr hv)]
      · rw [if_neg hv, scoreAt_neg fun ⟨_, ha⟩ => hv ha.1]
    · rw [padded, dif_neg hl, if_neg (not_lt.mpr half_pos.le), scoreAt_neg fun ⟨h, _⟩ => hl h]
  · rw [if_neg (Nat.not_lt_zero _)]
    show k0_pay34 (ix3 p f r) = _
    pointwise [k0_pay34]

/-- The areas, computed once before the loop. -/
theorem areas (l : Fin 5120) : k0_pay31 x1 x2 x3 x4 (ix2 p l) = area (x1 (ix2 p l)) (x2 (ix2 p l)) (x3 (ix2 p l)) (x4 (ix2 p l)) := by
  have p25 : ∀ x : Vec Ideal S80x5120 .f32, k0_pay25 x = x := fun x => shapeCast_self _ _
  have p26 : ∀ x : Vec Ideal S80x5120 .f32, k0_pay26 x = x := fun x => shapeCast_self _ _
  have p27 : ∀ x : Vec Ideal S80x5120 .f32, k0_pay27 x = x := fun x => shapeCast_self _ _
  have p28 : ∀ x : Vec Ideal S80x5120 .f32, k0_pay28 x = x := fun x => shapeCast_self _ _
  unfold area
  pointwise [k0_pay31]
  rw [p25, p26, p27, p28]

/-- A round keeps what the loop carries. -/
theorem round (hx : Holds B p x0 x1 x2 x3 x4 x5) (hs : Sorted B.valid B.sup keep σ τ) (hb : ByScore out B.conf B.valid σ)
    (k : Fin k0_t1_loop.trips) (acc : FVec Ideal S80x5120 .f32 × FVec Ideal S80x8x200 .f32) (h : AfterRounds B keep σ τ p k acc) :
    AfterRounds B keep σ τ p ((k : ℕ) + 1) (step1 x1 x2 x3 x4 x5 (k0_pay31 x1 x2 x3 x4) lanes k acc) := by
  have htrips : k0_t1_loop.trips = 200 := by decide +kernel
  have hk : (k : ℕ) < 5000 := by have := k.isLt; omega
  obtain ⟨hsc, hrow⟩ := h
  obtain ⟨q, hq15, hqmax, hqleast, hmark⟩ := pick_lane acc.1 p
  have hm : ∀ l : Fin 5120, scoreAt 5120 out B.conf B.valid B.sup keep σ τ k l ≤ acc.1 (ix2 p q) := fun l => hsc l ▸ hqmax l
  have hp : scoreAt 5120 out B.conf B.valid B.sup keep σ τ k q = acc.1 (ix2 p q) := (hsc q).symm
  have hp' : ∀ l : Fin 5120, scoreAt 5120 out B.conf B.valid B.sup keep σ τ k l = acc.1 (ix2 p q) → q ≤ l := fun l hl =>
    hqleast l ((hsc l).trans hl)
  have hN : 5000 ≤ 5120 := by decide
  refine ⟨fun l => ?_, fun f r => ?_⟩
  · rw [step1_score x1 x2 x3 x4 x5 _ k acc p q l (areas l) hmark, hsc l]
    have hsup : ∀ x y : Fin 5000, thr < iouAt x1 x2 x3 x4 p (Fin.castLE hN x) (Fin.castLE hN y) ↔ B.sup x y := fun x y => by
      have e : ∀ (g : Fin 5000 → EReal) (z : Fin 5000), padded g (Fin.castLE hN z) = g z := fun g z => padded_of_val g rfl
      unfold iouAt
      rw [hx.ymin, hx.xmin, hx.ymax, hx.xmax, hx.ymin, hx.xmin, hx.ymax, hx.xmax]
      simp only [e]
      exact Iff.rfl
    rw [← hs.step hb hN hk (supN := fun x y => thr < iouAt x1 x2 x3 x4 p x y) hsup hm hp hp' l]
    by_cases hd : thr < iouAt x1 x2 x3 x4 p q l ∨ l = q
    · rw [if_pos hd, if_pos hd]
    · rw [if_neg hd, if_neg hd]
  · rw [step1_rows x1 x2 x3 x4 x5 _ k acc p q f r hq15 hmark, hrow f r]
    by_cases hrk : (r : ℕ) = k
    · rw [if_pos hrk, if_pos (show (r : ℕ) < (k : ℕ) + 1 by omega)]
      have hr : (r.castLE (by decide) : Fin 5000) = ⟨k, hk⟩ := Fin.ext hrk
      rw [hr]
      by_cases hkeep : keep (τ ⟨k, hk⟩)
      · obtain ⟨hmc, hql⟩ := hs.pick hb hN hk hkeep hm ⟨q, hp⟩ hp hp'
        have hv := valid_pos ((hs.keep_iff _).mp hkeep).1
        rw [if_pos (lt_of_lt_of_eq hv.1 hmc.symm), Boxes.row, if_pos hkeep, hmc, hx.ymin, hx.xmin, hx.ymax, hx.xmax, hx.extra,
          padded_of_val B.xmin hql, padded_of_val B.ymin hql, padded_of_val B.xmax hql, padded_of_val B.ymax hql,
          padded_of_val B.extra hql, ← hx.cls]
        rfl
      · rw [← hp, hs.none hk hkeep, if_neg (not_lt.mpr out_neg.le), Boxes.row, if_neg hkeep]
    · rw [if_neg hrk]
      by_cases hlt : (r : ℕ) < k
      · rw [if_pos hlt, if_pos (by omega)]
      · rw [if_neg hlt, if_neg (by omega)]

/-- After the loop the rows are the first 200 chosen rows of the class. -/
theorem rowsOf_apply (hx : Holds B p x0 x1 x2 x3 x4 x5) (hs : Sorted B.valid B.sup keep σ τ) (hb : ByScore out B.conf B.valid σ)
    (f : Fin 8) (r : Fin 200) : rowsOf x0 x1 x2 x3 x4 x5 (ix3 p f r) = B.row keep σ τ f (r.castLE (by decide)) := by
  have htrips : k0_t1_loop.trips = 200 := by decide +kernel
  have h : AfterRounds B keep σ τ p k0_t1_loop.trips (loop1 x1 x2 x3 x4 x5 (k0_pay30 x0) (k0_pay31 x1 x2 x3 x4) lanes) := by
    unfold loop1
    refine fold_keeps _ _ (AfterRounds B keep σ τ p) ?_ ?_
    · exact start hx
    · exact round hx hs hb
  refine (h.2 f r).trans (if_pos ?_)
  have := r.isLt
  omega

end Cert.Proof.KernelIdeal

end
-- ==== Proof.KernelIdealTake.lean ====
/-
  Each image: the best rows of its classes, taken one after another.
-/
module

public import proofs.«01_k».proof.Proof.KernelIdealRows

@[expose] public section

noncomputable section

namespace Cert.Proof.KernelIdeal

open Cert.KernelIdeal Cert.KernelIdeal.Gen

open Idealize.ShloMosaic
open Idealize.ShloMosaic.TcCoe Idealize.ShloMosaic.Tactic
open Cert.Proof.Words Cert.Proof.Spec Cert.Proof.Greedy

/-- The number of a place of the table, class by class. -/
theorem place_word (c : Fin 20) (r : Fin 200) : k0_pay37 (ix2 c r) = BitVec.ofNat 32 (flat 200 c r : ℕ) := by
  have e : k0_pay37 (ix2 c r) = IntOp.addi (IntOp.muli (BitVec.ofNat 32 (c : ℕ)) 200#32) (BitVec.ofNat 32 (r : ℕ)) := by
    pointwise [k0_pay37]
  rw [e]
  apply BitVec.eq_of_toNat_eq
  show _ = (BitVec.ofNat 32 ((c : ℕ) * 200 + r)).toNat
  simp [IntOp.addi, IntOp.muli]

/-- The round's pick in the table: the first place with the largest score, and the selection marks that place alone. -/
theorem pick_place (s : FVec Ideal S20x200 .f32) : ∃ (a : Fin 20) (b : Fin 200), (∀ c r, s (ix2 c r) ≤ s (ix2 a b))
    ∧ (∀ c r, s (ix2 c r) = s (ix2 a b) → flat 200 a b ≤ flat 200 c r)
    ∧ ∀ c r, k0_pay41 s (ix2 c r) = if c = a ∧ r = b then 1#1 else 0#1 := by
  obtain ⟨⟨a0, b0, h0⟩, hmax⟩ := fold_max2_spec fun (c : Fin 20) (r : Fin 200) => s (ix2 c r)
  generalize hM : Finset.fold max (Ideal.ofBits .f32 4286578688#32) (fun x : Fin 20 => Finset.fold max (Ideal.ofBits .f32 4286578688#32)
    (fun y : Fin 200 => s (ix2 x y)) Finset.univ) Finset.univ = M at h0 hmax
  obtain ⟨⟨a, b⟩, hq, hleast⟩ := exists_least (fun x : Fin 20 × Fin 200 => s (ix2 x.1 x.2) = M) (fun x => (flat 200 x.1 x.2 : ℕ)) ⟨(a0, b0), h0⟩
  have hq : s (ix2 a b) = M := hq
  refine ⟨a, b, fun c r => hq ▸ hmax c r, fun c r h => hleast (c, r) (h.trans hq), fun c r => ?_⟩
  have h41 : k0_pay41 s (ix2 c r) = IntOp.cmpi CmpIPredicate.eq (k0_pay37 (ix2 c r)) (Finset.fold IntOp.minsi (2147483647#32)
      (fun x : Fin 20 => Finset.fold IntOp.minsi (2147483647#32)
        (fun y : Fin 200 => if s (ix2 x y) = M then k0_pay37 (ix2 x y) else 4000#32) Finset.univ) Finset.univ) := by
    rw [← hM]
    pointwise [k0_pay41]
  have e : (fun x : Fin 20 => Finset.fold IntOp.minsi (2147483647#32)
        (fun y : Fin 200 => if s (ix2 x y) = M then k0_pay37 (ix2 x y) else 4000#32) Finset.univ)
      = fun x : Fin 20 => Finset.fold IntOp.minsi (2147483647#32)
        (fun y : Fin 200 => BitVec.ofNat 32 (if s (ix2 x y) = M then (flat 200 x y : ℕ) else 4000)) Finset.univ := by
    funext x
    congr 1
    funext y
    rw [place_word]
    split <;> rfl
  have hlt : ∀ (x : Fin 20) (y : Fin 200), (flat 200 x y : ℕ) < 4000 := fun x y => (flat 200 x y).isLt
  have hb : ∀ (x : Fin 20) (y : Fin 200), (if s (ix2 x y) = M then (flat 200 x y : ℕ) else 4000) < 2147483648 := fun x y => by
    have := hlt x y
    split <;> omega
  have hl : ∀ (x : Fin 20) (y : Fin 200), (if s (ix2 a b) = M then (flat 200 a b : ℕ) else 4000)
      ≤ if s (ix2 x y) = M then (flat 200 x y : ℕ) else 4000 := fun x y => by
    rw [if_pos hq]
    split
    · next hx => exact hleast (x, y) hx
    · exact (hlt a b).le
  rw [h41, e, fold_minsi2_eq _ hb a b hl, if_pos hq, place_word,
    cmpi_eq_ofNat (by have := hlt c r; omega) (by have := hlt a b; omega)]
  by_cases hcr : c = a ∧ r = b
  · rw [if_pos hcr, hcr.1, hcr.2, if_pos rfl]
  · rw [if_neg hcr, if_neg fun e => hcr (flat_inj (Fin.ext e))]

/-- What 200 rounds of taking the best place do, for any loop whose round strikes the pick out of the scores and writes its
    row: the rows come out in the table's order. -/
theorem take_rows (val : Fin 8 → Fin 20 → Fin 400 → EReal) (ρ : Fin (20 * 400) → Fin (20 * 400)) (hT : Table (val 1) ρ)
    (hpos : ∀ c r, out < val 1 c r) {n : ℕ} (hn : n = 200) (rb : FVec Ideal S20x8x200 .f32)
    (hrb : ∀ c f r, rb (ix3 c f r) = val f c (r.castLE (by decide)))
    (g : Fin n → FVec Ideal S20x200 .f32 × FVec Ideal S8x200 .f32 → FVec Ideal S20x200 .f32 × FVec Ideal S8x200 .f32)
    (hg1 : ∀ k acc c r, (g k acc).1 (ix2 c r) = Scalar.select (k0_pay41 acc.1 (ix2 c r)) out (acc.1 (ix2 c r)))
    (hg2 : ∀ k acc f t, (g k acc).2 (ix2 f t) = Scalar.select (IntOp.cmpi CmpIPredicate.eq (BitVec.ofNat 32 (t : ℕ)) (Scf.iv 0#32 1#32 k))
      (∑ r, ∑ c, Scalar.select (k0_pay41 acc.1 (ix2 c r)) (rb (ix3 c f r)) 0) (acc.2 (ix2 f t)))
    (s0 : FVec Ideal S20x200 .f32) (o0 : FVec Ideal S8x200 .f32) (hs0 : ∀ c r, s0 (ix2 c r) = rb (ix3 c 1 r))
    (f : Fin 8) (t : Fin 200) : (Scf.fold g (s0, o0)).2 (ix2 f t) = ordered val ρ f t := by
  have hW : 200 ≤ 400 := by decide
  have h : (∀ c r, (Scf.fold g (s0, o0)).1 (ix2 c r) = tableAt hW out (val 1) ρ n c r)
      ∧ ∀ (f : Fin 8) (t : Fin 200), (t : ℕ) < n → (Scf.fold g (s0, o0)).2 (ix2 f t) = ordered val ρ f t := by
    refine fold_keeps g (s0, o0) (fun k acc => (∀ c r, acc.1 (ix2 c r) = tableAt hW out (val 1) ρ k c r)
      ∧ ∀ (f : Fin 8) (t : Fin 200), (t : ℕ) < k → acc.2 (ix2 f t) = ordered val ρ f t) ?_ ?_
    · refine ⟨fun c r => ?_, fun f t ht => absurd ht (Nat.not_lt_zero _)⟩
      rw [tableAt_zero]
      exact (hs0 c r).trans (hrb c 1 r)
    · rintro k acc ⟨h1, h2⟩
      obtain ⟨a, b, hmax, hleast, hmark⟩ := pick_place acc.1
      have hk := k.isLt
      have hp : ρ ⟨k, by omega⟩ = flat 400 a (Fin.castLE hW b) :=
        hT.pick hW hpos (t := ⟨k, by omega⟩) (by show (k : ℕ) < 200; omega) (m := acc.1 (ix2 a b))
          (fun c r => h1 c r ▸ hmax c r) (h1 a b).symm (fun c r h => hleast c r ((h1 c r).trans h))
      refine ⟨fun c r => ?_, fun f t ht => ?_⟩
      · rw [hg1, hmark c r, h1 c r]
        refine Eq.trans ?_ (hT.step hW (lo := out) hp c r)
        by_cases hcr : c = a ∧ r = b
        · rw [if_pos hcr, if_pos hcr]; rfl
        · rw [if_neg hcr, if_neg hcr]
          exact if_neg (by decide)
      · have hiv : Scf.iv 0#32 1#32 (k : ℕ) = BitVec.ofNat 32 k := by simp [Scf.iv]
        rw [hg2, hiv, cmpi_eq_ofNat (by have := t.isLt; omega) (by omega),
          sum_mark2 (fun c r => k0_pay41 acc.1 (ix2 c r)) (fun c r => rb (ix3 c f r)) a b hmark]
        by_cases htk : (t : ℕ) = k
        · rw [if_pos htk, hrb]
          have ht' : (t.castLE (by decide) : Fin (20 * 400)) = ⟨k, by omega⟩ := Fin.ext htk
          rw [ordered_eq val ρ f t ((congrArg ρ ht').trans hp)]
          rfl
        · rw [if_neg htk]
          exact h2 f t (by omega)
  exact h.2 f t (hn ▸ t.isLt)

/-- Image `b`'s result: its classes' chosen rows, in the order of the table. -/
theorem img_apply (rows : FVec Ideal S80x8x200 .f32) (val : Fin 8 → Fin 20 → Fin 400 → EReal) (ρ : Fin (20 * 400) → Fin (20 * 400))
    (hT : Table (val 1) ρ) (hpos : ∀ c r, out < val 1 c r) (b : Fin 4)
    (hrows : ∀ (c : Fin 20) f r, rows (ix3 (⟨20 * b + c, by omega⟩ : Fin 80) f r) = val f c (r.castLE (by decide)))
    (f : Fin 8) (t : Fin 200) : img rows b (ix2 f t) = ordered val ρ f t := by
  match b with
  | 0 =>
    have hn : k0_t2_loop.trips = 200 := by decide +kernel
    show img0 rows (ix2 f t) = _
    unfold img0
    exact take_rows val ρ hT hpos hn (k0_pay38 rows) (fun c f r => by rw [← hrows]; pointwise [k0_pay38]) _
      (fun k acc c r => by pointwise [k0_pay42]) (fun k acc f t => by pointwise [k0_pay43]) (k0_pay39 rows) k0_pay40
      (fun c r => by pointwise [k0_pay39]) f t
  | 1 =>
    have hn : k0_t3_loop.trips = 200 := by decide +kernel
    show img1 rows (ix2 f t) = _
    unfold img1
    exact take_rows val ρ hT hpos hn (k0_pay45 rows) (fun c f r => by rw [← hrows]; pointwise [k0_pay45]) _
      (fun k acc c r => by pointwise [k0_pay49]; rfl) (fun k acc f t => by pointwise [k0_pay50]; rfl) (k0_pay46 rows) k0_pay47
      (fun c r => by pointwise [k0_pay46]) f t
  | 2 =>
    have hn : k0_t4_loop.trips = 200 := by decide +kernel
    show img2 rows (ix2 f t) = _
    unfold img2
    exact take_rows val ρ hT hpos hn (k0_pay1 rows) (fun c f r => by rw [← hrows]; pointwise [k0_pay1]) _
      (fun k acc c r => by pointwise [k0_pay5]; rfl) (fun k acc f t => by pointwise [k0_pay6]; rfl) (k0_pay2 rows) k0_pay3
      (fun c r => by pointwise [k0_pay2]) f t
  | 3 =>
    have hn : k0_t5_loop.trips = 200 := by decide +kernel
    show img3 rows (ix2 f t) = _
    unfold img3
    exact take_rows val ρ hT hpos hn (k0_pay8 rows) (fun c f r => by rw [← hrows]; pointwise [k0_pay8]) _
      (fun k acc c r => by pointwise [k0_pay12]; rfl) (fun k acc f t => by pointwise [k0_pay13]; rfl) (k0_pay9 rows) k0_pay10
      (fun c r => by pointwise [k0_pay9]) f t

end Cert.Proof.KernelIdeal

end
-- ==== Proof.KernelIdealRun.lean ====
/-
  The run of the whole program: what every array holds at the end, and the frame.
-/
module

public import proofs.«01_k».proof.Proof.KernelIdealBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output block. -/
def outsAt (c : Dev nD) (t : Fin cfg0.N) : Vec F S4x8x200 .f32 :=
  (kernelRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0)
    (iblk m c 0 t) (iblk m c 1 t) (iblk m c 2 t) (iblk m c 3 t) (iblk m c 4 t) (iblk m c 5 t)).1

/-- The arrays as the launch finds them; after the body each input block as it was, the output block at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q _ := fullShare
  owed _ := 0

/-- The launch's arrays are those the operations before it leave. -/
theorem A_eq (c : Dev nD) (w : Fin cfg0.W) : (dats m 0 c).A w = V m c (Pipeline.arrRef spec0 w) := rfl
/-- The body leaves input block 0 as it was. -/
theorem after0_0 (c : Dev nD) (t : Fin cfg0.N) : (dats m 0 c).after 0 t = iblk m c 0 t := by dsimp only [dats]
/-- The body leaves input block 1 as it was. -/
theorem after0_1 (c : Dev nD) (t : Fin cfg0.N) : (dats m 0 c).after 1 t = iblk m c 1 t := by dsimp only [dats]
/-- The body leaves input block 2 as it was. -/
theorem after0_2 (c : Dev nD) (t : Fin cfg0.N) : (dats m 0 c).after 2 t = iblk m c 2 t := by dsimp only [dats]
/-- The body leaves input block 3 as it was. -/
theorem after0_3 (c : Dev nD) (t : Fin cfg0.N) : (dats m 0 c).after 3 t = iblk m c 3 t := by dsimp only [dats]
/-- The body leaves input block 4 as it was. -/
theorem after0_4 (c : Dev nD) (t : Fin cfg0.N) : (dats m 0 c).after 4 t = iblk m c 4 t := by dsimp only [dats]
/-- The body leaves input block 5 as it was. -/
theorem after0_5 (c : Dev nD) (t : Fin cfg0.N) : (dats m 0 c).after 5 t = iblk m c 5 t := by dsimp only [dats]
/-- The body leaves its output in the output block. -/
theorem after0_6 (c : Dev nD) (t : Fin cfg0.N) : (dats m 0 c).after 6 t = outsAt m c t := by dsimp only [dats]
/-- The body finds input block 0 as its array has it. -/
theorem before0_0 (c : Dev nD) (t : Fin cfg0.N) (d) : (dats m 0 c).before 0 t d = iblk m c 0 t :=
  before0_0_of m (dats m 0 c) (A_eq m c 0) (after0_0 m c) t d
/-- The body finds input block 1 as its array has it. -/
theorem before0_1 (c : Dev nD) (t : Fin cfg0.N) (d) : (dats m 0 c).before 1 t d = iblk m c 1 t :=
  before0_1_of m (dats m 0 c) (A_eq m c 1) (after0_1 m c) t d
/-- The body finds input block 2 as its array has it. -/
theorem before0_2 (c : Dev nD) (t : Fin cfg0.N) (d) : (dats m 0 c).before 2 t d = iblk m c 2 t :=
  before0_2_of m (dats m 0 c) (A_eq m c 2) (after0_2 m c) t d
/-- The body finds input block 3 as its array has it. -/
theorem before0_3 (c : Dev nD) (t : Fin cfg0.N) (d) : (dats m 0 c).before 3 t d = iblk m c 3 t :=
  before0_3_of m (dats m 0 c) (A_eq m c 3) (after0_3 m c) t d
/-- The body finds input block 4 as its array has it. -/
theorem before0_4 (c : Dev nD) (t : Fin cfg0.N) (d) : (dats m 0 c).before 4 t d = iblk m c 4 t :=
  before0_4_of m (dats m 0 c) (A_eq m c 4) (after0_4 m c) t d
/-- The body finds input block 5 as its array has it. -/
theorem before0_5 (c : Dev nD) (t : Fin cfg0.N) (d) : (dats m 0 c).before 5 t d = iblk m c 5 t :=
  before0_5_of m (dats m 0 c) (A_eq m c 5) (after0_5 m c) t d

/-- The body keeps its input blocks and leaves the output block at `outsAt`. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun c _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- Every execution ends, with each array of the launch at what the body left and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The program ends with its argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_with_sems (frame_of m ρ (dats m) fun _ _ => rfl) (run_main m ρ)

end Cert.Proof.KernelIdeal

end
-- ==== Proof.KernelIdealArray.lean ====
/-
  What the result buffer holds at the end of a run, and what the body reads.
-/
module

public import proofs.«01_k».proof.Proof.KernelIdealRun
public import proofs.«01_k».proof.Proof.KernelIdealOut
public import Idealize.ShloMosaic.Lib.StableHlo.ReadAt

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Every point of the one-point grid is this one. -/
theorem point_eq (t : Fin cfg0.N) : t = t0_0 := by
  have h : cfg0.N = 1 := N_0
  have := t.isLt
  exact Fin.ext (by show (t : ℕ) = 0; omega)

/-- The one write-back writes what the body left: the block is the whole array. -/
theorem flushed_eq (c : Dev nD) (t : Fin cfg0.N) (hf : (cfg0.win 6).flush t = true) :
    (dats m 0 c).flushed 6 t = ((cfg0.win 6).blk t).view.read (Elt F) (outsAt m c t0_0) := by
  obtain rfl : t = t0_0 := point_eq t
  show (cfg0.win 6).cut (grid0.coords t0_0) ((dats m 0 c).after 6 t0_0) = _
  rw [after0_6]
  have hz' : (fun a => win0_6.index t0_0 a * main_v31.ty.shape.size a) = fun _ => 0 := funext fun a => by fin_cases a <;> decide
  exact (Memref.read_access_unit_zero (Elt F) main_v31 hz' (fun a => by rw [congrFun hz' a]; simp) (outsAt m c t0_0)).symm

/-- So the result array ends holding what the body left. -/
theorem final_o (c : Dev nD) : (dats m 0 c).arrAt 6 cfg0.N = outsAt m c t0_0 :=
  (dats m 0 c).arrAt_eq_of_cover 6 (outsAt m c t0_0) (flushed_eq m c) fun i =>
    ⟨t0_0, flush0_6 t0_0, by
      show i ∈ ((View.whole main_v31).slice (win0_6.rect t0_0)).set
      rw [View.set_slice_whole, Rect.mem_set_unit]
      intro a
      have h0 : (i 0 : Nat) < 4 := (i 0).isLt
      have h1 : (i 1 : Nat) < 8 := (i 1).isLt
      have h2 : (i 2 : Nat) < 200 := (i 2).isLt
      match a with
      | ⟨0, _⟩ => show win0_6.index t0_0 0 * win0_6.size 0 ≤ (i 0 : Nat) ∧ (i 0 : Nat) < win0_6.index t0_0 0 * win0_6.size 0 + win0_6.xsize (grid0.coords t0_0) 0
                  rw [show win0_6.index t0_0 0 * win0_6.size 0 = 0 from by decide +kernel, show win0_6.xsize (grid0.coords t0_0) 0 = 4 from by decide +kernel]; omega
      | ⟨1, _⟩ => show win0_6.index t0_0 1 * win0_6.size 1 ≤ (i 1 : Nat) ∧ (i 1 : Nat) < win0_6.index t0_0 1 * win0_6.size 1 + win0_6.xsize (grid0.coords t0_0) 1
                  rw [show win0_6.index t0_0 1 * win0_6.size 1 = 0 from by decide +kernel, show win0_6.xsize (grid0.coords t0_0) 1 = 8 from by decide +kernel]; omega
      | ⟨2, _⟩ => show win0_6.index t0_0 2 * win0_6.size 2 ≤ (i 2 : Nat) ∧ (i 2 : Nat) < win0_6.index t0_0 2 * win0_6.size 2 + win0_6.xsize (grid0.coords t0_0) 2
                  rw [show win0_6.index t0_0 2 * win0_6.size 2 = 0 from by decide +kernel, show win0_6.xsize (grid0.coords t0_0) 2 = 200 from by decide +kernel]; omega⟩

/-- The result buffer at the end: the body's output, transposed, without the eighth field. -/
def result (c : Dev nD) : Vec F S4x200x7 .f32 :=
  Pipeline.afterTail₀ cfgs (dats m) 0 (V0 m) [hostOps1] c main_v33

/-- Row `t`, field `f` of image `b` in the result is the body's output there. -/
theorem result_apply (c : Dev nD) (b : Fin 4) (t : Fin 200) (f : Fin 7) :
    result m c (ix3 b t f) = outsAt m c t0_0 (ix3 b (f.castLE (by decide) : Fin 8) t) := by
  have hw : Pipeline.withArrays spec0 c (V0 m c) (fun w => (dats m 0 c).arrAt w cfg0.N) (Proc.devRef .tc main_v31) = outsAt m c t0_0 :=
    (Pipeline.withArrays_arr spec0 launch0.win.arr_inj c (V0 m c) _ 6).trans (final_o m c)
  unfold result Pipeline.afterTail₀
  simp only [List.flatten_cons, List.flatten_nil, List.append_nil]
  show StableHlo.after hostOps1 (Pipeline.withArrays spec0 c (V0 m c) (fun w => (dats m 0 c).arrAt w cfg0.N)) (Proc.devRef .tc main_v33) (ix3 b t f) = _
  revert hw
  generalize Pipeline.withArrays spec0 c (V0 m c) (fun w => (dats m 0 c).arrAt w cfg0.N) = X
  intro hw
  after_reads_simp
  rw [hw]
  pointwise
  rfl

/-- Every run ends with the result buffer at `result`, the argument unchanged. -/
theorem run_value : θ_run defs (onTc (τ := τ) (main (F := F))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0) :=
  (θ_run defs _ _).mono (fun _ h c => ⟨(h.1 c).2 main_v33 (Pipeline.mem_restRefs_of main_v33 (by decide) (by decide)),
    ((h.1 c).2 main_arg0 (Pipeline.mem_restRefs_of main_arg0 (by decide) (by decide))).trans (W_main_arg0 m (dats m) c)⟩)
    (run_main m ρ)

/-- The body's input block of window 0 is that whole array. -/
theorem iblk_0 (c : Dev nD) : (iblk m c 0 t0_0 : Vec F S80x5120 .f32) = V m c main_v3 := by
  have hz' : (fun a => win0_0.index t0_0 a * main_v3.ty.shape.size a) = fun _ => 0 := funext fun a => by fin_cases a <;> decide
  exact Memref.read_access_unit_zero (Elt F) main_v3 hz' (fun a => by rw [congrFun hz' a]; simp) (V m c main_v3)

/-- The body's input block of window 1 is that whole array. -/
theorem iblk_1 (c : Dev nD) : (iblk m c 1 t0_0 : Vec F S80x5120 .f32) = V m c main_v15 := by
  have hz' : (fun a => win0_1.index t0_0 a * main_v15.ty.shape.size a) = fun _ => 0 := funext fun a => by fin_cases a <;> decide
  exact Memref.read_access_unit_zero (Elt F) main_v15 hz' (fun a => by rw [congrFun hz' a]; simp) (V m c main_v15)

/-- The body's input block of window 2 is that whole array. -/
theorem iblk_2 (c : Dev nD) : (iblk m c 2 t0_0 : Vec F S80x5120 .f32) = V m c main_v10 := by
  have hz' : (fun a => win0_2.index t0_0 a * main_v10.ty.shape.size a) = fun _ => 0 := funext fun a => by fin_cases a <;> decide
  exact Memref.read_access_unit_zero (Elt F) main_v10 hz' (fun a => by rw [congrFun hz' a]; simp) (V m c main_v10)

/-- The body's input block of window 3 is that whole array. -/
theorem iblk_3 (c : Dev nD) : (iblk m c 3 t0_0 : Vec F S80x5120 .f32) = V m c main_v25 := by
  have hz' : (fun a => win0_3.index t0_0 a * main_v25.ty.shape.size a) = fun _ => 0 := funext fun a => by fin_cases a <;> decide
  exact Memref.read_access_unit_zero (Elt F) main_v25 hz' (fun a => by rw [congrFun hz' a]; simp) (V m c main_v25)

/-- The body's input block of window 4 is that whole array. -/
theorem iblk_4 (c : Dev nD) : (iblk m c 4 t0_0 : Vec F S80x5120 .f32) = V m c main_v20 := by
  have hz' : (fun a => win0_4.index t0_0 a * main_v20.ty.shape.size a) = fun _ => 0 := funext fun a => by fin_cases a <;> decide
  exact Memref.read_access_unit_zero (Elt F) main_v20 hz' (fun a => by rw [congrFun hz' a]; simp) (V m c main_v20)

/-- The body's input block of window 5 is that whole array. -/
theorem iblk_5 (c : Dev nD) : (iblk m c 5 t0_0 : Vec F S80x5120 .f32) = V m c main_v30 := by
  have hz' : (fun a => win0_5.index t0_0 a * main_v30.ty.shape.size a) = fun _ => 0 := funext fun a => by fin_cases a <;> decide
  exact Memref.read_access_unit_zero (Elt F) main_v30 hz' (fun a => by rw [congrFun hz' a]; simp) (V m c main_v30)

end Cert.Proof.KernelIdeal

end
-- ==== Proof.KernelIdealValue.lean ====
/-
  The kernel computes the answer.
-/
module

public import proofs.«01_k».proof.Proof.KernelIdealTake
public import proofs.«01_k».proof.Proof.KernelIdealArray

@[expose] public section

noncomputable section

namespace Cert.Proof.KernelIdeal

open Cert.KernelIdeal Cert.KernelIdeal.Gen

open Idealize.ShloMosaic
open Idealize.ShloMosaic.TcCoe Idealize.ShloMosaic.Tactic
open Cert.Proof.Words Cert.Proof.Spec Cert.Proof.Greedy

variable (m : (ℓ : Loc nD τ sig) → Buf (Elt Ideal) ℓ)

/-- The argument, by image, box and column. -/
def arg (c : Dev nD) (b : Fin 4) (l : Fin 5000) (j : Fin 102) : EReal := (m (c.tc.loc main_arg0) : Vec Ideal S4x5000x102 .f32) (ix3 b l j)

/-- The word zero is the number zero. -/
theorem sitofp_zero : (FloatOps.sitofp FTy.f32 (0#32) : Ideal .f32) = 0 := by
  show (((0#32 : BitVec 32).toInt : ℝ) : EReal) = 0
  simp

/-- The argument at an index, by image, box and column. -/
theorem arg_at (d : Dev nD) {i b : Fin 4} {k l : Fin 5000} {j j' : Fin 102} (hi : (i : ℕ) = b) (hk : (k : ℕ) = l) (hj : (j : ℕ) = j') :
    (m (d, Proc.tc.devRef main_arg0) : Vec Ideal S4x5000x102 .f32) (ix3 i k j) = arg m d b l j' := by
  obtain rfl := Fin.ext hi
  obtain rfl := Fin.ext hk
  obtain rfl := Fin.ext hj
  rfl

/-- 5000 values followed by the word zero. -/
theorem padded_eq {P : Prop} [Decidable P] {l : Fin 5120} (hP : P ↔ (l : ℕ) < 5000) (u : P → EReal) (g : Fin 5000 → EReal)
    (hu : ∀ (h : P) (hl : (l : ℕ) < 5000), u h = g ⟨l, hl⟩) :
    (if h : P then u h else (FloatOps.sitofp FTy.f32 (0#32) : Ideal .f32)) = padded g l := by
  unfold padded
  by_cases hl : (l : ℕ) < 5000
  · rw [dif_pos (hP.mpr hl), dif_pos hl]
    exact hu _ _
  · rw [dif_neg fun h => hl (hP.mp h), dif_neg hl]
    exact sitofp_zero

/-- The scores that the kernel is given. -/
theorem in_conf (d : Dev nD) (b : Fin 4) (c : Fin 20) (l : Fin 5120) :
    (V m d main_v3 : Vec Ideal S80x5120 .f32) (ix2 (⟨20 * b + c, by omega⟩ : Fin 80) l) = padded (boxes (arg m d) b c).conf l := by
  unfold V V0
  after_reads_at
  exact padded_eq (by omega) _ _ fun h hl => arg_at m d (by dsimp only; omega) rfl (by dsimp only; omega)

/-- The ymin values that the kernel is given. -/
theorem in_ymin (d : Dev nD) (b : Fin 4) (c : Fin 20) (l : Fin 5120) :
    (V m d main_v15 : Vec Ideal S80x5120 .f32) (ix2 (⟨20 * b + c, by omega⟩ : Fin 80) l) = padded (boxes (arg m d) b c).ymin l := by
  unfold V V0
  after_reads_at
  exact padded_eq (by omega) _ _ fun h hl => arg_at m d (by dsimp only; omega) rfl (by dsimp only; omega)

/-- The xmin values that the kernel is given. -/
theorem in_xmin (d : Dev nD) (b : Fin 4) (c : Fin 20) (l : Fin 5120) :
    (V m d main_v10 : Vec Ideal S80x5120 .f32) (ix2 (⟨20 * b + c, by omega⟩ : Fin 80) l) = padded (boxes (arg m d) b c).xmin l := by
  unfold V V0
  after_reads_at
  exact padded_eq (by omega) _ _ fun h hl => arg_at m d (by dsimp only; omega) rfl (by dsimp only; omega)

/-- The ymax values that the kernel is given. -/
theorem in_ymax (d : Dev nD) (b : Fin 4) (c : Fin 20) (l : Fin 5120) :
    (V m d main_v25 : Vec Ideal S80x5120 .f32) (ix2 (⟨20 * b + c, by omega⟩ : Fin 80) l) = padded (boxes (arg m d) b c).ymax l := by
  unfold V V0
  after_reads_at
  exact padded_eq (by omega) _ _ fun h hl => arg_at m d (by dsimp only; omega) rfl (by dsimp only; omega)

/-- The xmax values that the kernel is given. -/
theorem in_xmax (d : Dev nD) (b : Fin 4) (c : Fin 20) (l : Fin 5120) :
    (V m d main_v20 : Vec Ideal S80x5120 .f32) (ix2 (⟨20 * b + c, by omega⟩ : Fin 80) l) = padded (boxes (arg m d) b c).xmax l := by
  unfold V V0
  after_reads_at
  exact padded_eq (by omega) _ _ fun h hl => arg_at m d (by dsimp only; omega) rfl (by dsimp only; omega)

/-- The extra values that the kernel is given. -/
theorem in_extra (d : Dev nD) (b : Fin 4) (c : Fin 20) (l : Fin 5120) :
    (V m d main_v30 : Vec Ideal S80x5120 .f32) (ix2 (⟨20 * b + c, by omega⟩ : Fin 80) l) = padded (boxes (arg m d) b c).extra l := by
  unfold V V0
  after_reads_at
  exact padded_eq (by omega) _ _ fun h hl => arg_at m d (by dsimp only; omega) rfl rfl

/-- So each row of the input blocks holds one class of one image. -/
theorem holds (d : Dev nD) (b : Fin 4) (c : Fin 20) : Holds (boxes (arg m d) b c) (⟨20 * b + c, by omega⟩ : Fin 80)
    (iblk m d 0 t0_0) (iblk m d 1 t0_0) (iblk m d 2 t0_0) (iblk m d 3 t0_0) (iblk m d 4 t0_0) (iblk m d 5 t0_0) where
  cls := by
    show FloatOps.sitofp (F := Ideal) FTy.f32 (BitVec.ofNat 32 ((c : ℕ) + 1)) = FloatOps.sitofp (F := Ideal) FTy.f32 (BitVec.ofNat 32 ((20 * (b : ℕ) + c) % 20 + 1))
    rw [show (20 * (b : ℕ) + c) % 20 = c by omega]
  conf l := (congrFun (iblk_0 m d) _).trans (in_conf m d b c l)
  ymin l := (congrFun (iblk_1 m d) _).trans (in_ymin m d b c l)
  xmin l := (congrFun (iblk_2 m d) _).trans (in_xmin m d b c l)
  ymax l := (congrFun (iblk_3 m d) _).trans (in_ymax m d b c l)
  xmax l := (congrFun (iblk_4 m d) _).trans (in_xmax m d b c l)
  extra l := (congrFun (iblk_5 m d) _).trans (in_extra m d b c l)

/-- A chosen row's score is above the mark of a row out of the running. -/
theorem table_pos {X : Fin 4 → Fin 5000 → Fin 102 → EReal} {keep : Fin 4 → Fin 20 → Fin 5000 → Prop}
    {σ τ : Fin 4 → Fin 20 → Fin 5000 → Fin 5000} {ρ : Fin 4 → Fin (20 * 400) → Fin (20 * 400)} (hS : Solution X keep σ τ ρ)
    (b : Fin 4) (c : Fin 20) (r : Fin 400) : out < table X keep σ τ b 1 c r := by
  unfold table Boxes.row
  split
  · next h => exact (valid_pos (((hS.sorted b c).keep_iff _).mp h).1).2
  · exact out_neg

/-- The kernel's result is the answer, for every choice that is the problem's. -/
theorem result_eq (d : Dev nD) {keep : Fin 4 → Fin 20 → Fin 5000 → Prop} {σ τ' : Fin 4 → Fin 20 → Fin 5000 → Fin 5000}
    {ρ : Fin 4 → Fin (20 * 400) → Fin (20 * 400)} (hS : Solution (arg m d) keep σ τ' ρ) (b : Fin 4) (t : Fin 200) (f : Fin 7) :
    result m d (ix3 b t f) = answer (arg m d) keep σ τ' ρ b t f := by
  rw [result_apply]
  unfold outsAt
  rw [kernelRun_apply]
  refine img_apply _ (table (arg m d) keep σ τ' b) (ρ b) (hS.table b) (table_pos hS b) b (fun c f r => ?_) _ t
  rw [rowsOf_apply (holds m d b c) (hS.sorted b c) (hS.byScore b c)]
  rfl

end Cert.Proof.KernelIdeal

end
-- ==== Proof.StableSort.lean ====
module

public import Idealize.ShloMosaic.Lib.SortFacts
public import Idealize.ShloMosaic.PureOps.Ideal.Laws

@[expose] public section

/-! # A stable sort by a key: equal keys stay in their order -/

namespace Cert.Proof.StableSort

open Idealize.ShloMosaic

section
variable {n : ℕ} {α : Type*} [LinearOrder α] {R : Fin n → Fin n → Bool} {key : Fin n → α}

/-- Inserting a position that stands before all of a sorted list's positions keeps the list sorted by key and then by
    position. -/
theorem insert_sorted (hR : ∀ a b, R a b = true ↔ key a < key b) (a : Fin n) (l : List (Fin n))
    (hl : l.Pairwise fun x y => key x < key y ∨ (key x = key y ∧ x < y)) (ha : ∀ b ∈ l, a < b) :
    (insertBefore R a l).Pairwise fun x y => key x < key y ∨ (key x = key y ∧ x < y) := by
  induction l with
  | nil => exact List.pairwise_singleton _ _
  | cons b l ih =>
    have hl' := List.pairwise_cons.1 hl
    unfold insertBefore
    split
    · rename_i hba
      refine List.pairwise_cons.2 ⟨fun c hc => ?_, ih hl'.2 fun c hc => ha c (List.mem_cons_of_mem _ hc)⟩
      rcases List.mem_cons.1 ((perm_insertBefore R a l).mem_iff.1 hc) with h | h
      · exact h ▸ Or.inl ((hR b a).1 hba)
      · exact hl'.1 c h
    · rename_i hba
      have hab : key a ≤ key b := not_lt.1 fun h => hba ((hR b a).2 h)
      have hfst : ∀ c, c ∈ b :: l → key b ≤ key c := by
        intro c hc
        rcases List.mem_cons.1 hc with h | h
        · exact h ▸ le_refl _
        · rcases hl'.1 c h with h1 | h1
          · exact h1.le
          · exact h1.1.le
      refine List.pairwise_cons.2 ⟨fun c hc => ?_, hl⟩
      rcases lt_or_eq_of_le (le_trans hab (hfst c hc)) with h | h
      · exact Or.inl h
      · exact Or.inr ⟨h, ha c hc⟩

/-- The stable sort of an increasing list of positions is sorted by key and then by position. -/
theorem stableSort_sorted (hR : ∀ a b, R a b = true ↔ key a < key b) (l : List (Fin n)) (hl : l.Pairwise (· < ·)) :
    (stableSort R l).Pairwise fun x y => key x < key y ∨ (key x = key y ∧ x < y) := by
  induction l with
  | nil => exact List.Pairwise.nil
  | cons a l ih =>
    have hl' := List.pairwise_cons.1 hl
    unfold stableSort
    exact insert_sorted hR a _ (ih hl'.2) fun b hb => hl'.1 b ((perm_stableSort R l).mem_iff.1 hb)

/-- Of two sorted places the earlier holds the smaller key, or an equal key from an earlier position. -/
theorem sortedFrom_lt (hR : ∀ a b, R a b = true ↔ key a < key b) (i j : Fin n) (hij : i < j) :
    key (sortedFrom R i) < key (sortedFrom R j) ∨
      (key (sortedFrom R i) = key (sortedFrom R j) ∧ sortedFrom R i < sortedFrom R j) := by
  have h : (sortPositions n R).Pairwise fun x y => key x < key y ∨ (key x = key y ∧ x < y) :=
    stableSort_sorted hR _ (List.pairwise_lt_finRange n)
  exact List.pairwise_iff_get.1 h _ _ hij

end

end Cert.Proof.StableSort

end
-- ==== Proof.ReferenceSort.lean ====
/-
  The reference's sorts, read at an index, and the orders they sort by.
-/
module

public import proofs.«01_k».proof.Proof.StableSort
public import proofs.«01_k».proof.Proof.Gen.ReferenceIdeal.Run
public import Idealize.ShloMosaic.Lib.Pointwise
public import Idealize.ShloMosaic.PureOps.Ideal
public import Idealize.ShloMosaic.PureOps.Ideal.Laws

@[expose] public section

noncomputable section

namespace Cert.Proof.Reference

open Cert.ReferenceIdeal Cert.ReferenceIdeal.Gen
open Idealize.ShloMosaic Idealize.ShloMosaic.Tactic

/-- An index of three with another third coordinate. -/
theorem along_ix3 {n₀ n₁ n₂ : ℕ} (b : Fin n₀) (c : Fin n₁) (r k : Fin n₂) :
    Shape.Idx.along (s := ⟨3, ![n₀, n₁, n₂]⟩) (ix3 b c r) (⟨2, Nat.lt_succ_self 2⟩ : Fin 3) k = ix3 b c k := by
  funext a
  unfold Shape.Idx.along
  match a with
  | ⟨0, _⟩ => exact Function.update_of_ne (fun e => absurd (congrArg Fin.val e) (by simp)) _ _
  | ⟨1, _⟩ => exact Function.update_of_ne (fun e => absurd (congrArg Fin.val e) (by simp)) _ _
  | ⟨2, _⟩ => exact Function.update_self _ _ _

/-- An index of two with another second coordinate. -/
theorem along_ix2 {n₀ n₁ : ℕ} (b : Fin n₀) (r k : Fin n₁) :
    Shape.Idx.along (s := ⟨2, ![n₀, n₁]⟩) (ix2 b r) (⟨1, Nat.lt_succ_self 1⟩ : Fin 2) k = ix2 b k := by
  funext a
  unfold Shape.Idx.along
  match a with
  | ⟨0, _⟩ => exact Function.update_of_ne (fun e => absurd (congrArg Fin.val e) (by simp)) _ _
  | ⟨1, _⟩ => exact Function.update_self _ _ _

/-- A sort along the last of three axes, at an index. -/
theorem sortBy_ix3 {n₀ n₁ n₂ : ℕ} {ι α : Type} (cmp : ι → ι → BitVec 1) (rows : Shape.Idx ⟨3, ![n₀, n₁, n₂]⟩ → ι) (x : Shape.Idx ⟨3, ![n₀, n₁, n₂]⟩ → α)
    (b : Fin n₀) (c : Fin n₁) (r : Fin n₂) :
    Host.sortBy ⟨3, ![n₀, n₁, n₂]⟩ 2 cmp rows x (ix3 b c r)
      = x (ix3 b c (sortedFrom (fun k k' => cmp (rows (ix3 b c k)) (rows (ix3 b c k')) == 1#1) r)) := by
  unfold Host.sortBy
  rw [dif_pos (show 2 < (⟨3, ![n₀, n₁, n₂]⟩ : Shape).rank from Nat.lt_succ_self 2)]
  have h : ∀ k : Fin n₂, Shape.Idx.along (s := ⟨3, ![n₀, n₁, n₂]⟩) (ix3 b c r) (⟨2, Nat.lt_succ_self 2⟩ : Fin 3) k = ix3 b c k := along_ix3 b c r
  refine (congrArg x (h _)).trans ?_
  refine congrArg x (congrArg _ (congrFun (congrArg sortedFrom ?_) r))
  funext k k'
  exact congrArg₂ (fun u v => cmp (rows u) (rows v) == 1#1) (h k) (h k')

/-- A sort along the last of two axes, at an index. -/
theorem sortBy_ix2 {n₀ n₁ : ℕ} {ι α : Type} (cmp : ι → ι → BitVec 1) (rows : Shape.Idx ⟨2, ![n₀, n₁]⟩ → ι) (x : Shape.Idx ⟨2, ![n₀, n₁]⟩ → α)
    (b : Fin n₀) (r : Fin n₁) :
    Host.sortBy ⟨2, ![n₀, n₁]⟩ 1 cmp rows x (ix2 b r)
      = x (ix2 b (sortedFrom (fun k k' => cmp (rows (ix2 b k)) (rows (ix2 b k')) == 1#1) r)) := by
  unfold Host.sortBy
  rw [dif_pos (show 1 < (⟨2, ![n₀, n₁]⟩ : Shape).rank from Nat.lt_succ_self 1)]
  have h : ∀ k : Fin n₁, Shape.Idx.along (s := ⟨2, ![n₀, n₁]⟩) (ix2 b r) (⟨1, Nat.lt_succ_self 1⟩ : Fin 2) k = ix2 b k := along_ix2 b r
  refine (congrArg x (h _)).trans ?_
  refine congrArg x (congrArg _ (congrFun (congrArg sortedFrom ?_) r))
  funext k k'
  exact congrArg₂ (fun u v => cmp (rows u) (rows v) == 1#1) (h k) (h k')

/-- The order of extended reals, as the sorts decide it: a zero is made the positive zero first, which changes nothing here. -/
theorem key_lt (x y : EReal) :
    (FloatOps.cmpfTotal (F := Ideal) (φ := .f32) .lt
      (Scalar.select (FloatOps.cmpf (F := Ideal) (φ := .f32) .une x x) (FloatOps.ofBits .f32 0x7FC00000#32)
        (Scalar.select (FloatOps.cmpf (F := Ideal) (φ := .f32) .oeq x (FloatOps.ofBits .f32 0x00000000#32)) (FloatOps.ofBits .f32 0x00000000#32) x))
      (Scalar.select (FloatOps.cmpf (F := Ideal) (φ := .f32) .une y y) (FloatOps.ofBits .f32 0x7FC00000#32)
        (Scalar.select (FloatOps.cmpf (F := Ideal) (φ := .f32) .oeq y (FloatOps.ofBits .f32 0x00000000#32)) (FloatOps.ofBits .f32 0x00000000#32) y))
      == 1#1) = decide (x < y) := by
  have hs : ∀ z : EReal, (Scalar.select (FloatOps.cmpf (F := Ideal) (φ := .f32) .une z z) (FloatOps.ofBits .f32 0x7FC00000#32)
        (Scalar.select (FloatOps.cmpf (F := Ideal) (φ := .f32) .oeq z (FloatOps.ofBits .f32 0x00000000#32)) (FloatOps.ofBits .f32 0x00000000#32) z) : Ideal .f32) = z := by
    intro z
    have h1 : FloatOps.cmpf (F := Ideal) (φ := .f32) .une z z = 0#1 := by
      show BitVec.ofBool (decide (z ≠ z)) = 0#1
      simp
    rw [h1]
    show Scalar.select (FloatOps.cmpf (F := Ideal) (φ := .f32) .oeq z (FloatOps.ofBits .f32 0x00000000#32)) (FloatOps.ofBits .f32 0x00000000#32 : Ideal .f32) z = z
    by_cases hz : z = (FloatOps.ofBits .f32 0x00000000#32 : Ideal .f32)
    · rw [← hz]
      exact ite_self _
    · have h2 : FloatOps.cmpf (F := Ideal) (φ := .f32) .oeq z (FloatOps.ofBits .f32 0x00000000#32) = 0#1 := by
        show BitVec.ofBool (decide (z = (FloatOps.ofBits .f32 0x00000000#32 : Ideal .f32))) = 0#1
        rw [decide_eq_false hz]
        rfl
      rw [h2]
      rfl
  rw [hs, hs]
  show (BitVec.ofBool (decide (x < y)) == 1#1) = decide (x < y)
  cases decide (x < y) <;> rfl

/-- The key of the first sort and of its kind along two axes. -/
theorem cmp_d2 (l r : Ideal .f32 × Ideal .f32 × Ideal .f32 × Ideal .f32 × Ideal .f32 × Ideal .f32 × Ideal .f32 × Ideal .f32) :
    (comparator_f32_f32_f32_f32_f32_f32_f32_f32_d2 l r == 1#1) = decide ((l.1 : EReal) < r.1) := key_lt l.1 r.1

/-- The key of the last sort. -/
theorem cmp_d1 (l r : Ideal .f32 × Ideal .f32 × Ideal .f32 × Ideal .f32 × Ideal .f32 × Ideal .f32 × Ideal .f32 × Ideal .f32) :
    (comparator_f32_f32_f32_f32_f32_f32_f32_f32_d1 l r == 1#1) = decide ((l.1 : EReal) < r.1) := key_lt l.1 r.1

/-- The key of the second sort. -/
theorem cmp_word (l r : BitVec 32 × Ideal .f32 × Ideal .f32 × Ideal .f32 × Ideal .f32 × Ideal .f32 × Ideal .f32 × Ideal .f32) :
    (comparator_i32_f32_f32_f32_f32_f32_f32_f32_d2 l r == 1#1) = decide (l.1.toInt < r.1.toInt) := by
  show (BitVec.ofBool (l.1.slt r.1) == 1#1) = _
  rw [BitVec.slt]
  cases decide (l.1.toInt < r.1.toInt) <;> rfl

end Cert.Proof.Reference

end
-- ==== Proof.ReferenceEntry.lean ====
/-
  What the reference's first sort is given and leaves.
-/
module

public import proofs.«01_k».proof.Proof.ReferenceSort
public import proofs.«01_k».proof.Proof.Spec
public import proofs.«01_k».proof.Proof.Words
public import Idealize.ShloMosaic.Lib.StableHlo.ReadAt

@[expose] public section

noncomputable section

namespace Cert.Proof.Reference

open Cert.ReferenceIdeal Cert.ReferenceIdeal.Gen Cert.ReferenceIdeal.Value
open Idealize.ShloMosaic Idealize.ShloMosaic.Tactic Idealize.ShloMosaic.TcCoe
open Idealize.ShloMosaic.StableHlo
open Cert.Proof.Words Cert.Proof.Spec Cert.Proof.Greedy

variable (m : (ℓ : Loc nD τ sig) → Buf (Elt Ideal) ℓ)

/-- The argument, by image, box and column. -/
def arg (d : Dev nD) (b : Fin 4) (l : Fin 5000) (j : Fin 102) : EReal := (m (d.tc.loc main_arg0) : Vec Ideal S4x5000x102 .f32) (ix3 b l j)

/-- The contents before the first sort. -/
def S0 (d : Dev nD) : Valuation τ sig (Elt Ideal) := after hostOps0_1 (after hostOps0 fun b => m (d, b))

/-- The contents after the first sort. -/
def S1 (d : Dev nD) : Valuation τ sig (Elt Ideal) := upto hostOps0_2 (S0 m d) 9

/-- The argument at an index, by image, box and column. -/
theorem arg_at (d : Dev nD) {i b : Fin 4} {k l : Fin 5000} {j j' : Fin 102} (hi : (i : ℕ) = b) (hk : (k : ℕ) = l) (hj : (j : ℕ) = j') :
    (m (d, Proc.tc.devRef main_arg0) : Vec Ideal S4x5000x102 .f32) (ix3 i k j) = arg m d b l j' := by
  obtain rfl := Fin.ext hi
  obtain rfl := Fin.ext hk
  obtain rfl := Fin.ext hj
  rfl

/-- The seven columns that the first sort is given. -/
def cols0 (V : Valuation τ sig (Elt Ideal)) (f : Fin 7) : Vec Ideal S4x20x5000 .f32 :=
  match f with
  | 0 => V (Proc.devRef .tc main_v14)
  | 1 => V (Proc.devRef .tc main_v1)
  | 2 => V (Proc.devRef .tc main_v16)
  | 3 => V (Proc.devRef .tc main_v18)
  | 4 => V (Proc.devRef .tc main_v20)
  | 5 => V (Proc.devRef .tc main_v22)
  | 6 => V (Proc.devRef .tc main_v8)

/-- The seven columns after the first sort. -/
def cols1 (V : Valuation τ sig (Elt Ideal)) (f : Fin 7) : Vec Ideal S4x20x5000 .f32 :=
  match f with
  | 0 => V (Proc.devRef .tc main_v27_1)
  | 1 => V (Proc.devRef .tc main_v27_2)
  | 2 => V (Proc.devRef .tc main_v27_3)
  | 3 => V (Proc.devRef .tc main_v27_4)
  | 4 => V (Proc.devRef .tc main_v27_5)
  | 5 => V (Proc.devRef .tc main_v27_6)
  | 6 => V (Proc.devRef .tc main_v27_7)

/-- What holds of each column. -/
theorem cases7 {p : Fin 7 → Prop} (h0 : p 0) (h1 : p 1) (h2 : p 2) (h3 : p 3) (h4 : p 4) (h5 : p 5) (h6 : p 6) (f : Fin 7) : p f :=
  match f with
  | 0 => h0 | 1 => h1 | 2 => h2 | 3 => h3 | 4 => h4 | 5 => h5 | 6 => h6

/-- A column that the first sort is given holds the boxes' fields. -/
theorem S0_cols (d : Dev nD) (b : Fin 4) (c : Fin 20) (l : Fin 5000) (f : Fin 7) :
    cols0 (S0 m d) f (ix3 b c l) = (boxes (arg m d) b c).field (f.castLE (by decide)) l := by
  refine cases7 (p := fun f => cols0 (S0 m d) f (ix3 b c l) = (boxes (arg m d) b c).field (f.castLE (by decide)) l) ?_ ?_ ?_ ?_ ?_ ?_ ?_ f
  · simp only [cols0, S0]
    after_reads_at
    show _ = FloatOps.sitofp FTy.f32 (BitVec.ofNat 32 ((c : ℕ) + 1))
    rw [Nat.add_comm, BitVec.ofNat_add]
    rfl
  all_goals
    simp only [cols0, S0]
    after_reads_at
    exact arg_at m d rfl rfl rfl

open Classical in
/-- A box's score: its confidence where that is high enough. -/
def score (d : Dev nD) (b : Fin 4) (c : Fin 20) (l : Fin 5000) : EReal :=
  if half < (boxes (arg m d) b c).conf l then (boxes (arg m d) b c).conf l else ⊥

/-- The scores that the first sort goes by, before they are negated. -/
theorem S0_score (d : Dev nD) (b : Fin 4) (c : Fin 20) (l : Fin 5000) :
    (S0 m d (Proc.devRef .tc main_v25) : Vec Ideal S4x20x5000 .f32) (ix3 b c l) = score m d b c l := by
  unfold S0
  after_reads_at
  have h : (m (d, Proc.tc.devRef main_arg0) : Vec Ideal S4x5000x102 .f32) (ix3 b l ⟨1 + c, by omega⟩) = (boxes (arg m d) b c).conf l :=
    arg_at m d rfl rfl rfl
  unfold score
  rw [h]
  refine if_congr Iff.rfl rfl ?_
  exact ofBits_negInf

/-- The order of the first sort: by score, the largest first. -/
def σ (d : Dev nD) (b : Fin 4) (c : Fin 20) : Fin 5000 → Fin 5000 :=
  sortedFrom fun k k' => decide (-score m d b c k < -score m d b c k')

/-- A column after the first sort is the column before it, in that order. -/
theorem sort1 (d : Dev nD) (b : Fin 4) (c : Fin 20) (r : Fin 5000)
    (rows : S4x20x5000.Idx → Ideal .f32 × Ideal .f32 × Ideal .f32 × Ideal .f32 × Ideal .f32 × Ideal .f32 × Ideal .f32 × Ideal .f32)
    (x : Vec Ideal S4x20x5000 .f32) (hrows : ∀ k, (rows (ix3 b c k)).1 = -score m d b c k) :
    Host.sortBy S4x20x5000 2 comparator_f32_f32_f32_f32_f32_f32_f32_f32_d2 rows x (ix3 b c r) = x (ix3 b c (σ m d b c r)) := by
  refine (sortBy_ix3 _ rows x b c r).trans (congrArg (fun k => x (ix3 b c k)) (congrFun (congrArg sortedFrom ?_) r))
  funext k k'
  rw [cmp_d2, hrows, hrows]

/-- The key of the first sort. -/
theorem key1 (d : Dev nD) (b : Fin 4) (c : Fin 20) (k : Fin 5000) :
    (upto hostOps0_2 (S0 m d) 1 (Proc.devRef .tc main_v26) : Vec Ideal S4x20x5000 .f32) (ix3 b c k) = -score m d b c k := by
  rw [← S0_score]
  after_reads_at

/-- A column after the first sort holds the boxes' fields, in the order of that sort. -/
theorem S1_cols (d : Dev nD) (b : Fin 4) (c : Fin 20) (r : Fin 5000) (f : Fin 7) :
    cols1 (S1 m d) f (ix3 b c r) = (boxes (arg m d) b c).field (f.castLE (by decide)) (σ m d b c r) := by
  rw [← S0_cols]
  refine cases7 (p := fun f => cols1 (S1 m d) f (ix3 b c r) = cols0 (S0 m d) f (ix3 b c (σ m d b c r))) ?_ ?_ ?_ ?_ ?_ ?_ ?_ f
  all_goals
    simp only [cols0, cols1, S1]
    after_reads_simp
    exact sort1 m d b c r _ _ (key1 m d b c)

/-- The operations after the first sort start from what it leaves. -/
theorem split (V : Valuation τ sig (Elt Ideal)) : after hostOps0_2 V = after (hostOps0_2.drop 9) (upto hostOps0_2 V 9) := by
  rw [upto, ← after_append, List.take_append_drop]

/-- The contents where the loop is entered. -/
def E (d : Dev nD) : Valuation τ sig (Elt Ideal) := after hostOps0_4 (after hostOps0_3 (after (hostOps0_2.drop 9) (S1 m d)))

/-- They are the entry contents of the loop rule. -/
theorem entry_eq (d : Dev nD) : entryContents preI m d = E m d := by
  show after hostOps0_4 (after hostOps0_3 (after hostOps0_2 (S0 m d))) = _
  rw [split]
  rfl

/-- The overlaps the loop is entered with. -/
theorem E_iou (d : Dev nD) (b : Fin 4) (c : Fin 20) (i j : Fin 5000) :
    thr < (E m d (Proc.devRef .tc main_v78_0) : Vec Ideal S4x20x5000x5000 .f32) (ix4 b c i j) ↔ (boxes (arg m d) b c).sup (σ m d b c j) (σ m d b c i) := by
  unfold Boxes.sup
  have hx (k : Fin 5000) : (boxes (arg m d) b c).xmin (σ m d b c k) = _ := (S1_cols m d b c k 2).symm
  have hy (k : Fin 5000) : (boxes (arg m d) b c).ymin (σ m d b c k) = _ := (S1_cols m d b c k 3).symm
  have hx' (k : Fin 5000) : (boxes (arg m d) b c).xmax (σ m d b c k) = _ := (S1_cols m d b c k 4).symm
  have hy' (k : Fin 5000) : (boxes (arg m d) b c).ymax (σ m d b c k) = _ := (S1_cols m d b c k 5).symm
  rw [iou_comm, hx, hx, hy, hy, hx', hx', hy', hy']
  simp only [cols1]
  unfold E
  generalize S1 m d = V
  simp only [hostOps0_2, List.drop_succ_cons, List.drop_zero]
  unfold iou area
  refine iff_of_eq (congrArg (thr < ·) ?_)
  after_reads_simp
  try simp -implicitDefEqProofs only [TRef.toBuf, TRef.ofBuf, cast_cast, cast_eq, id_eq]
  clean_types
  pointwise

/-- The positions the loop is entered with. -/
theorem E_iota (d : Dev nD) (j : Fin 5000) :
    (E m d (Proc.devRef .tc main_v78_1) : S5000.Idx → BitVec 32) (ix1 j) = BitVec.ofNat 32 j := by
  unfold E
  after_reads_simp
  try simp -implicitDefEqProofs only [TRef.toBuf, TRef.ofBuf, cast_cast, cast_eq, id_eq]
  clean_types
  pointwise

/-- A decided bit. -/
theorem ofBool_decide (p : Prop) [Decidable p] : BitVec.ofBool (decide p) = 1#1 ↔ p := by
  by_cases h : p <;> simp [h]

/-- The validity bits the loop is entered with. -/
theorem E_valid (d : Dev nD) (b : Fin 4) (c : Fin 20) (r : Fin 5000) :
    (E m d (Proc.devRef .tc main_v78_2) : S4x20x5000.Idx → BitVec 1) (ix3 b c r) = 1#1 ↔ (boxes (arg m d) b c).valid (σ m d b c r) := by
  unfold Boxes.valid
  rw [show (boxes (arg m d) b c).conf (σ m d b c r) = _ from (S1_cols m d b c r 1).symm]
  simp only [cols1]
  unfold E
  generalize S1 m d = V
  simp only [hostOps0_2, List.drop_succ_cons, List.drop_zero]
  after_reads_simp
  try simp -implicitDefEqProofs only [TRef.toBuf, TRef.ofBuf, cast_cast, cast_eq, id_eq]
  clean_types
  pointwise
  exact ofBool_decide _

/-- The counter of boxes the loop is entered with. -/
theorem E_i (d : Dev nD) : (E m d (Proc.devRef .tc main_v78_4) : S_.Idx → BitVec 32) = fun _ => 0#32 := by
  funext i
  unfold E
  after_reads_simp
  try simp -implicitDefEqProofs only [TRef.toBuf, TRef.ofBuf, cast_cast, cast_eq, id_eq]
  clean_types
  pointwise

end Cert.Proof.Reference

end
-- ==== Proof.ReferenceLoop.lean ====
/-
  The reference's loop over the boxes.
-/
module

public import proofs.«01_k».proof.Proof.ReferenceEntry
public import Idealize.ShloMosaic.Lib.Routing.OpsOrder
public import Idealize.ShloMosaic.Lib.WordCmp
public import Idealize.ShloMosaic.Lib.Tactic.WordOmega

@[expose] public section

noncomputable section

namespace Cert.Proof.Reference

open Cert.ReferenceIdeal Cert.ReferenceIdeal.Gen Cert.ReferenceIdeal.Value
open Idealize.ShloMosaic Idealize.ShloMosaic.Tactic Idealize.ShloMosaic.TcCoe
open Idealize.ShloMosaic.StableHlo
open Cert.Proof.Words Cert.Proof.Spec Cert.Proof.Greedy

variable (m : (ℓ : Loc nD τ sig) → Buf (Elt Ideal) ℓ)

/-- The starts of a slice of three axes at position `k` of the last. -/
def at3 (k : ℕ) : Fin 3 → Int := ![0, 0, (k : Int)]

/-- The starts of a slice of four axes at position `k` of the third. -/
def at4 (k : ℕ) : Fin 4 → Int := ![0, 0, (k : Int), 0]

/-- A position as a slice's start: it is not negative, so it is taken as it is. -/
theorem start_word (k : Fin 5000) :
    (Scalar.select (IntOp.cmpi .slt (BitVec.ofNat 32 k) 0#32) (IntOp.addi (BitVec.ofNat 32 k) 5000#32) (BitVec.ofNat 32 k)).toInt = (k : Int) := by
  have hk := k.isLt
  word_omega

/-- A bit and the opposite of another. -/
theorem andi_not (x y : BitVec 1) : IntOp.andi x (~~~y) = 1#1 ↔ x = 1#1 ∧ ¬ y = 1#1 := by
  revert x y
  decide

/-- Two bits. -/
theorem andi_one (x y : BitVec 1) : IntOp.andi x y = 1#1 ↔ x = 1#1 ∧ y = 1#1 := by
  revert x y
  decide

/-- One trip: box `k` is kept when it is valid and no earlier kept box overlaps it too much; the other boxes stay as they
    were. -/
theorem trip_at (ov : Vec Ideal S4x20x5000x5000 .f32) (io : S5000.Idx → BitVec 32) (va ke : S4x20x5000.Idx → BitVec 1) (i : S_.Idx → BitVec 32)
    (k : Fin 5000) (s3 s3' : Fin 3 → Int) (s4 : Fin 4 → Int) (h3 : s3 = at3 k) (h3' : s3' = at3 k) (h4 : s4 = at4 k) (hi : i = fun _ => BitVec.ofNat 32 k)
    (hio : ∀ j : Fin 5000, io (ix1 j) = BitVec.ofNat 32 j) (b : Fin 4) (c : Fin 20) (r : Fin 5000) :
    Host.dynamicUpdateSlice ke (broadcastInDim S4x20x1 ![0, 1] bcast_S4x20_S4x20x1_0_1
      (andi (shapeCast S4x20 (Host.dynamicSlice S4x20x1 va s3 sliceFits_S4x20x5000_S4x20x1) shapeCasts_S4x20x1_S4x20)
        (noti (Host.reduce IntOp.ori
          (andi (andi ke (cmpf (F := Ideal) (φ := .f32) .ogt
              (shapeCast S4x20x5000 (Host.dynamicSlice S4x20x1x5000 ov s4 sliceFits_S4x20x5000x5000_S4x20x1x5000) shapeCasts_S4x20x1x5000_S4x20x5000)
              (broadcastInDim S4x20x5000 ![] bcast_S_S4x20x5000 (constant S_ .f32 0x3EE66666#32))))
            (broadcastInDim S4x20x5000 ![0, 1, 2] bcast_S1x1x5000_S4x20x5000_0_1_2 (broadcastInDim S1x1x5000 ![2] bcast_S5000_S1x1x5000_2
              (cmpi .slt io (broadcastInDim S5000 ![] bcast_S_S5000 i)))))
          (constantI S_ 1 0#1) reducesTo_S4x20x5000_S4x20_d2 h_S_)))) s3' updateFits_S4x20x5000_S4x20x1 (ix3 b c r) = 1#1
      ↔ if r = k then va (ix3 b c k) = 1#1 ∧ ∀ j < k, ke (ix3 b c j) = 1#1 → ¬ thr < (ov (ix4 b c k j) : EReal) else ke (ix3 b c r) = 1#1 := by
  subst h3 h3' h4 hi
  have hk := k.isLt
  have h3 : ∀ ht, Host.clampedStart S4x20x5000 S4x20x1 ht (at3 k) 0 = 0 ∧ Host.clampedStart S4x20x5000 S4x20x1 ht (at3 k) 1 = 0
      ∧ Host.clampedStart S4x20x5000 S4x20x1 ht (at3 k) 2 = k :=
    fun ht => ⟨Host.clampedStart_of_le ht _ _ 0 rfl (Nat.le_refl 4), Host.clampedStart_of_le ht _ _ 0 rfl (Nat.le_refl 20),
      Host.clampedStart_of_le ht _ _ k rfl (show (k : ℕ) + 1 ≤ 5000 from hk)⟩
  have h4 : ∀ ht, Host.clampedStart S4x20x5000x5000 S4x20x1x5000 ht (at4 k) 0 = 0 ∧ Host.clampedStart S4x20x5000x5000 S4x20x1x5000 ht (at4 k) 1 = 0
      ∧ Host.clampedStart S4x20x5000x5000 S4x20x1x5000 ht (at4 k) 2 = k ∧ Host.clampedStart S4x20x5000x5000 S4x20x1x5000 ht (at4 k) 3 = 0 :=
    fun ht => ⟨Host.clampedStart_of_le ht _ _ 0 rfl (Nat.le_refl 4), Host.clampedStart_of_le ht _ _ 0 rfl (Nat.le_refl 20),
      Host.clampedStart_of_le ht _ _ k rfl (show (k : ℕ) + 1 ≤ 5000 from hk), Host.clampedStart_of_le ht _ _ 0 rfl (Nat.le_refl 5000)⟩
  pointwise
  simp only [h3, h4, Nat.sub_zero, Nat.zero_add, Nat.zero_le, true_and, Fin.eta, hio]
  by_cases hr : r = k
  · subst hr
    rw [dif_pos ⟨le_refl _, Nat.lt_succ_self _⟩, if_pos rfl, andi_not, Routing.fold_ori]
    refine and_congr Iff.rfl ?_
    simp only [Finset.mem_univ, true_and, andi_one, not_exists, not_and]
    refine forall_congr' fun j => ?_
    rw [WordCmp.cmpi_slt_ofNat_eq_one_iff (by omega) (by omega)]
    rw [ofBool_decide]
    exact ⟨fun h hj hkj ho => h ⟨hkj, ho⟩ hj, fun h hko hj => h hj hko.1 hko.2⟩
  · rw [dif_neg fun h => hr (Fin.ext (by omega)), if_neg hr]

/-- One trip of the loop on the keep bits. -/
theorem step_keep (V : Valuation τ sig (Elt Ideal)) (k : Fin 5000) (hi : (V (Proc.devRef .tc main_v78_4) : S_.Idx → BitVec 32) = fun _ => BitVec.ofNat 32 k)
    (hio : ∀ j : Fin 5000, (V (Proc.devRef .tc main_v78_1) : S5000.Idx → BitVec 32) (ix1 j) = BitVec.ofNat 32 j)
    (b : Fin 4) (c : Fin 20) (r : Fin 5000) :
    (step_main_v78_5 V : S4x20x5000.Idx → BitVec 1) (ix3 b c r) = 1#1 ↔
      if r = k then (V (Proc.devRef .tc main_v78_2) : S4x20x5000.Idx → BitVec 1) (ix3 b c k) = 1#1
        ∧ ∀ j < k, (V (Proc.devRef .tc main_v78_5) : S4x20x5000.Idx → BitVec 1) (ix3 b c j) = 1#1
          → ¬ thr < (V (Proc.devRef .tc main_v78_0) : Vec Ideal S4x20x5000x5000 .f32) (ix4 b c k j)
      else (V (Proc.devRef .tc main_v78_5) : S4x20x5000.Idx → BitVec 1) (ix3 b c r) = 1#1 := by
  have hw : (Scalar.select (IntOp.cmpi .slt ((V (Proc.devRef .tc main_v78_4) : S_.Idx → BitVec 32) (Shape.Idx.first h_S_)) 0#32)
      (IntOp.addi ((V (Proc.devRef .tc main_v78_4) : S_.Idx → BitVec 32) (Shape.Idx.first h_S_)) 5000#32)
      ((V (Proc.devRef .tc main_v78_4) : S_.Idx → BitVec 32) (Shape.Idx.first h_S_))).toInt = (k : Int) := by
    rw [hi]
    exact start_word k
  refine trip_at (V (Proc.devRef .tc main_v78_0)) (V (Proc.devRef .tc main_v78_1)) (V (Proc.devRef .tc main_v78_2)) (V (Proc.devRef .tc main_v78_5))
    (V (Proc.devRef .tc main_v78_4)) k _ _ _ (funext fun a => ?_) (funext fun a => ?_) (funext fun a => ?_) hi hio b c r
  · match a with
    | ⟨0, _⟩ => exact (rfl : (0#32).toInt = 0)
    | ⟨1, _⟩ => exact (rfl : (0#32).toInt = 0)
    | ⟨2, _⟩ => exact hw
  · match a with
    | ⟨0, _⟩ => exact (rfl : (0#32).toInt = 0)
    | ⟨1, _⟩ => exact (rfl : (0#32).toInt = 0)
    | ⟨2, _⟩ => exact hw
  · match a with
    | ⟨0, _⟩ => exact (rfl : (0#32).toInt = 0)
    | ⟨1, _⟩ => exact (rfl : (0#32).toInt = 0)
    | ⟨2, _⟩ => exact hw
    | ⟨3, _⟩ => exact (rfl : (0#32).toInt = 0)

/-- What trips that settle one box each make of the keep bits: each box's bit is settled by the earlier ones'. -/
theorem keep_of_trips {n : ℕ} {v : Fin n → Prop} {s : Fin n → Fin n → Prop} {K : ℕ → Fin n → Prop}
    (h : ∀ k r : Fin n, K (k + 1) r ↔ if r = k then v k ∧ ∀ j < k, K k j → ¬ s j k else K k r) (i : Fin n) :
    K n i ↔ v i ∧ ∀ j < i, K n j → ¬ s j i := by
  have stable : ∀ k ≤ n, ∀ r : Fin n, (r : ℕ) < k → (K k r ↔ K (r + 1) r) := by
    intro k
    induction k with
    | zero => exact fun _ r hr => absurd hr (Nat.not_lt_zero _)
    | succ k ih =>
      intro hk r hr
      rcases Nat.lt_succ_iff_lt_or_eq.mp hr with h1 | h1
      · rw [← ih (by omega) r h1, h ⟨k, hk⟩ r, if_neg fun e => by rw [e] at h1; exact lt_irrefl _ h1]
      · rw [h1]
  rw [stable n le_rfl i i.isLt, h i i, if_pos rfl]
  refine and_congr Iff.rfl (forall_congr' fun j => forall_congr' fun hj => ?_)
  rw [stable i i.isLt.le j hj, stable n le_rfl j j.isLt]

/-- The contents of the loop's buffers after `k` trips. -/
def W (d : Dev nD) (k : ℕ) : Valuation τ sig (Elt Ideal) := STEP^[k] (E m d)

/-- One trip more. -/
theorem W_succ (d : Dev nD) (k : ℕ) : W m d (k + 1) = STEP (W m d k) := Function.iterate_succ_apply' _ _ _

/-- The overlaps stay as they are. -/
theorem W_iou (d : Dev nD) (k : ℕ) : W m d k (Proc.devRef .tc main_v78_0) = E m d (Proc.devRef .tc main_v78_0) := by
  induction k with
  | zero => rfl
  | succ k ih => rw [W_succ, STEP_main_v78_0, ih]

/-- The positions stay as they are. -/
theorem W_iota (d : Dev nD) (k : ℕ) : W m d k (Proc.devRef .tc main_v78_1) = E m d (Proc.devRef .tc main_v78_1) := by
  induction k with
  | zero => rfl
  | succ k ih => rw [W_succ, STEP_main_v78_1, ih]

/-- The validity bits stay as they are. -/
theorem W_valid (d : Dev nD) (k : ℕ) : W m d k (Proc.devRef .tc main_v78_2) = E m d (Proc.devRef .tc main_v78_2) := by
  induction k with
  | zero => rfl
  | succ k ih => rw [W_succ, STEP_main_v78_2, ih]

/-- The counter counts the trips. -/
theorem W_i (d : Dev nD) (k : ℕ) : (W m d k (Proc.devRef .tc main_v78_4) : S_.Idx → BitVec 32) = fun _ => BitVec.ofNat 32 k := by
  induction k with
  | zero => exact E_i m d
  | succ k ih =>
    rw [W_succ, STEP_main_v78_4]
    unfold step_main_v78_4
    rw [ih]
    funext i
    show BitVec.ofNat 32 k + 1#32 = BitVec.ofNat 32 (k + 1)
    rw [BitVec.ofNat_add]

/-- The boxes kept after `k` trips. -/
def keepAt (d : Dev nD) (b : Fin 4) (c : Fin 20) (k : ℕ) (r : Fin 5000) : Prop :=
  (W m d k (Proc.devRef .tc main_v78_5) : S4x20x5000.Idx → BitVec 1) (ix3 b c r) = 1#1

/-- The boxes that the loop keeps. -/
def keep (d : Dev nD) (b : Fin 4) (c : Fin 20) (r : Fin 5000) : Prop := keepAt m d b c 5000 r

/-- They are the valid ones that no earlier kept one suppresses. -/
theorem keep_iff (d : Dev nD) (b : Fin 4) (c : Fin 20) (i : Fin 5000) :
    keep m d b c i ↔ (boxes (arg m d) b c).valid (σ m d b c i)
      ∧ ∀ j < i, keep m d b c j → ¬ (boxes (arg m d) b c).sup (σ m d b c j) (σ m d b c i) := by
  refine keep_of_trips (v := fun i => (boxes (arg m d) b c).valid (σ m d b c i))
    (s := fun j i => (boxes (arg m d) b c).sup (σ m d b c j) (σ m d b c i)) (K := keepAt m d b c) (fun k r => ?_) i
  unfold keepAt
  rw [W_succ, STEP_main_v78_5]
  refine (step_keep (W m d k) k (W_i m d k) (fun j => by rw [W_iota]; exact E_iota m d j) b c r).trans ?_
  by_cases hr : r = k
  · rw [if_pos hr, if_pos hr, W_valid, W_iou]
    refine and_congr (E_valid m d b c k) (forall_congr' fun j => forall_congr' fun _ => imp_congr Iff.rfl (not_congr ?_))
    exact E_iou m d b c k j
  · rw [if_neg hr, if_neg hr]

/-- The contents after the loop. -/
def P (d : Dev nD) : Valuation τ sig (Elt Ideal) := after condOps (atK m 5000 d)

/-- A buffer that the loop does not write is as it was where the loop is entered. -/
theorem P_kept (d : Dev nD) (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    P m d (Proc.devRef .tc r) = entryContents preI m d (Proc.devRef .tc r) := by
  have key : ∀ k, atK m k d (Proc.devRef .tc r) = entryContents preI m d (Proc.devRef .tc r) := by
    intro k
    induction k with
    | zero => rfl
    | succ k ih =>
      rw [← ih]
      change after while0Ops0_6 (after while0Ops0_5 (after while0Ops0_4 (after while0Ops0_3 (after while0Ops0_2 (after while0Ops0_1
        (after while0Ops0 (after condOps (atK m k d)))))))) (Proc.devRef .tc r) = _
      rw [after_of_writes_sub while0Ops0_6 _ while0Ops0_6_writes h6, after_of_writes_sub while0Ops0_5 _ while0Ops0_5_writes h5,
        after_of_writes_sub while0Ops0_4 _ while0Ops0_4_writes h4, after_of_writes_sub while0Ops0_3 _ while0Ops0_3_writes h3,
        after_of_writes_sub while0Ops0_2 _ while0Ops0_2_writes h2, after_of_writes_sub while0Ops0_1 _ while0Ops0_1_writes h1,
        after_of_writes_sub while0Ops0 _ while0Ops0_writes h0, after_of_writes_sub condOps _ condOps_writes h]
  unfold P
  rw [after_of_writes_sub condOps _ condOps_writes h, key]

/-- The keep bits after the loop. -/
theorem P_keep (d : Dev nD) (b : Fin 4) (c : Fin 20) (r : Fin 5000) :
    (P m d (Proc.devRef .tc main_v78_5) : S4x20x5000.Idx → BitVec 1) (ix3 b c r) = 1#1 ↔ keep m d b c r := by
  unfold P keep keepAt W
  rw [after_of_writes_sub condOps _ condOps_writes (by decide), atK_agree m d 5000 main_v78_5 (by decide), entry_eq]

/-- A column after the loop is the first sort's. -/
theorem P_col (d : Dev nD) (r : Ref sig .tc) (hr : r ∈ [main_v27_1, main_v27_2, main_v27_3, main_v27_4, main_v27_5, main_v27_6, main_v27_7]) :
    P m d (Proc.devRef .tc r) = S1 m d (Proc.devRef .tc r) := by
  simp only [List.mem_cons, List.not_mem_nil, or_false] at hr
  rcases hr with rfl | rfl | rfl | rfl | rfl | rfl | rfl
  all_goals
    rw [P_kept m d _ (by decide) (by decide) (by decide) (by decide) (by decide) (by decide) (by decide) (by decide), entry_eq]
    unfold E
    simp only [hostOps0_2, List.drop_succ_cons, List.drop_zero]
    after_reads_simp

end Cert.Proof.Reference

end
-- ==== Proof.ReferenceEnd.lean ====
/-
  The reference after its loop: the chosen rows of each class, and of each image.
-/
module

public import proofs.«01_k».proof.Proof.ReferenceLoop

@[expose] public section

noncomputable section

namespace Cert.Proof.Reference

open Cert.ReferenceIdeal Cert.ReferenceIdeal.Gen Cert.ReferenceIdeal.Value
open Idealize.ShloMosaic Idealize.ShloMosaic.Tactic Idealize.ShloMosaic.TcCoe
open Idealize.ShloMosaic.StableHlo
open Cert.Proof.Words Cert.Proof.Spec Cert.Proof.Greedy

variable (m : (ℓ : Loc nD τ sig) → Buf (Elt Ideal) ℓ)

/-- The seven columns that the second sort is given. -/
def cols2 (V : Valuation τ sig (Elt Ideal)) (f : Fin 7) : Vec Ideal S4x20x5000 .f32 :=
  match f with
  | 0 => V (Proc.devRef .tc main_v81)
  | 1 => V (Proc.devRef .tc main_v82)
  | 2 => V (Proc.devRef .tc main_v83)
  | 3 => V (Proc.devRef .tc main_v84)
  | 4 => V (Proc.devRef .tc main_v85)
  | 5 => V (Proc.devRef .tc main_v86)
  | 6 => V (Proc.devRef .tc main_v87)

/-- The seven columns after the second sort. -/
def cols3 (V : Valuation τ sig (Elt Ideal)) (f : Fin 7) : Vec Ideal S4x20x5000 .f32 :=
  match f with
  | 0 => V (Proc.devRef .tc main_v88_1)
  | 1 => V (Proc.devRef .tc main_v88_2)
  | 2 => V (Proc.devRef .tc main_v88_3)
  | 3 => V (Proc.devRef .tc main_v88_4)
  | 4 => V (Proc.devRef .tc main_v88_5)
  | 5 => V (Proc.devRef .tc main_v88_6)
  | 6 => V (Proc.devRef .tc main_v88_7)

/-- The seven columns that the third sort is given. -/
def cols4 (V : Valuation τ sig (Elt Ideal)) (f : Fin 7) : Vec Ideal S4x8000 .f32 :=
  match f with
  | 0 => V (Proc.devRef .tc main_v90)
  | 1 => V (Proc.devRef .tc main_v92)
  | 2 => V (Proc.devRef .tc main_v94)
  | 3 => V (Proc.devRef .tc main_v96)
  | 4 => V (Proc.devRef .tc main_v98)
  | 5 => V (Proc.devRef .tc main_v100)
  | 6 => V (Proc.devRef .tc main_v102)

/-- The seven columns after the third sort. -/
def cols5 (V : Valuation τ sig (Elt Ideal)) (f : Fin 7) : Vec Ideal S4x8000 .f32 :=
  match f with
  | 0 => V (Proc.devRef .tc main_v104_1)
  | 1 => V (Proc.devRef .tc main_v104_2)
  | 2 => V (Proc.devRef .tc main_v104_3)
  | 3 => V (Proc.devRef .tc main_v104_4)
  | 4 => V (Proc.devRef .tc main_v104_5)
  | 5 => V (Proc.devRef .tc main_v104_6)
  | 6 => V (Proc.devRef .tc main_v104_7)

/-- A column after the loop holds the boxes' fields, in the order of the first sort. -/
theorem P_cols (d : Dev nD) (b : Fin 4) (c : Fin 20) (r : Fin 5000) (f : Fin 7) :
    cols1 (P m d) f (ix3 b c r) = (boxes (arg m d) b c).field (f.castLE (by decide)) (σ m d b c r) := by
  rw [← S1_cols]
  refine cases7 (p := fun f => cols1 (P m d) f (ix3 b c r) = cols1 (S1 m d) f (ix3 b c r)) ?_ ?_ ?_ ?_ ?_ ?_ ?_ f
  all_goals exact congrFun (P_col m d _ (by decide)) _

/-- The contents before the second sort, from those after the loop. -/
def before2 (V : Valuation τ sig (Elt Ideal)) : Valuation τ sig (Elt Ideal) :=
  after hostOps0_18 (after hostOps0_17 (after hostOps0_16 (after hostOps0_15 (after hostOps0_14 (after hostOps0_13 (after hostOps0_12
    (after hostOps0_11 (after hostOps0_10 (after hostOps0_9 (after hostOps0_8 (after hostOps0_7 (after hostOps0_6 (after hostOps0_5 V)))))))))))))

/-- The contents before the second sort. -/
def T0 (d : Dev nD) : Valuation τ sig (Elt Ideal) := before2 (P m d)

/-- The contents after the second sort. -/
def T1 (d : Dev nD) : Valuation τ sig (Elt Ideal) := upto hostOps0_19 (T0 m d) 8

/-- The contents before the third sort. -/
def T2 (d : Dev nD) : Valuation τ sig (Elt Ideal) := upto (hostOps0_19.drop 8) (T1 m d) 15

/-- The contents after the third sort. -/
def T3 (d : Dev nD) : Valuation τ sig (Elt Ideal) := upto ((hostOps0_19.drop 8).drop 15) (T2 m d) 8

/-- The contents before the columns are put side by side. -/
def T3' (d : Dev nD) : Valuation τ sig (Elt Ideal) := upto (((hostOps0_19.drop 8).drop 15).drop 8) (T3 m d) 14

/-- The contents at the end. -/
def T4 (d : Dev nD) : Valuation τ sig (Elt Ideal) := after ((((hostOps0_19.drop 8).drop 15).drop 8).drop 14) (T3' m d)

/-- A list of operations done in two parts. -/
theorem split_at (ops : List (HloOp τ sig (Elt Ideal))) (n : ℕ) (V : Valuation τ sig (Elt Ideal)) :
    after ops V = after (ops.drop n) (upto ops V n) := by
  rw [upto, ← after_append, List.take_append_drop]

/-- They are the final contents of the loop rule. -/
theorem final_eq (d : Dev nD) : finalContents condOps preI bodyI postI 5000 m d = T4 m d := by
  show after hostOps0_19 (T0 m d) = _
  rw [split_at hostOps0_19 8, split_at (hostOps0_19.drop 8) 15, split_at ((hostOps0_19.drop 8).drop 15) 8,
    split_at (((hostOps0_19.drop 8).drop 15).drop 8) 14]
  rfl

/-- A column that the second sort is given: zero where the box is not kept. -/
theorem before2_cols (V : Valuation τ sig (Elt Ideal)) (b : Fin 4) (c : Fin 20) (r : Fin 5000) (f : Fin 7) :
    cols2 (before2 V) f (ix3 b c r)
      = if (V (Proc.devRef .tc main_v78_5) : S4x20x5000.Idx → BitVec 1) (ix3 b c r) = 1#1 then cols1 V f (ix3 b c r) else (0 : EReal) := by
  refine cases7 (p := fun f => cols2 (before2 V) f (ix3 b c r)
      = if (V (Proc.devRef .tc main_v78_5) : S4x20x5000.Idx → BitVec 1) (ix3 b c r) = 1#1 then cols1 V f (ix3 b c r) else (0 : EReal))
    ?_ ?_ ?_ ?_ ?_ ?_ ?_ f
  all_goals
    simp only [cols1, cols2, before2]
    after_reads_simp
    try simp -implicitDefEqProofs only [TRef.toBuf, TRef.ofBuf, cast_cast, cast_eq, id_eq]
    clean_types
    pointwise
    rfl

/-- The key that the second sort is given. -/
theorem before2_key (V : Valuation τ sig (Elt Ideal)) (b : Fin 4) (c : Fin 20) (r : Fin 5000) :
    (before2 V (Proc.devRef .tc main_v80) : S4x20x5000.Idx → BitVec 32) (ix3 b c r)
      = BitVec.setWidth 32 (~~~ ((V (Proc.devRef .tc main_v78_5) : S4x20x5000.Idx → BitVec 1) (ix3 b c r) : BitVec 1)) := by
  unfold before2
  after_reads_simp
  try simp -implicitDefEqProofs only [TRef.toBuf, TRef.ofBuf, cast_cast, cast_eq, id_eq]
  clean_types
  pointwise

open Classical in
/-- A box's place in the second sort: kept boxes first. -/
def place (d : Dev nD) (b : Fin 4) (c : Fin 20) (r : Fin 5000) : ℤ := if keep m d b c r then 0 else 1

/-- The key of the second sort. -/
theorem key2 (d : Dev nD) (b : Fin 4) (c : Fin 20) (r : Fin 5000) :
    ((T0 m d (Proc.devRef .tc main_v80) : S4x20x5000.Idx → BitVec 32) (ix3 b c r)).toInt = place m d b c r := by
  unfold T0 place
  rw [before2_key]
  by_cases h : keep m d b c r
  · rw [if_pos h, (P_keep m d b c r).mpr h]
    decide
  · rw [if_neg h, (BitVec.eq_zero_or_eq_one _).resolve_right fun e => h ((P_keep m d b c r).mp e)]
    decide

/-- The order of the second sort: the kept boxes, then the others. -/
def τ' (d : Dev nD) (b : Fin 4) (c : Fin 20) : Fin 5000 → Fin 5000 :=
  sortedFrom fun k k' => decide (place m d b c k < place m d b c k')

/-- A column after the second sort is the column before it, in that order. -/
theorem sort2 (d : Dev nD) (b : Fin 4) (c : Fin 20) (r : Fin 5000)
    (rows : S4x20x5000.Idx → BitVec 32 × Ideal .f32 × Ideal .f32 × Ideal .f32 × Ideal .f32 × Ideal .f32 × Ideal .f32 × Ideal .f32)
    (x : Vec Ideal S4x20x5000 .f32) (hrows : ∀ k, (rows (ix3 b c k)).1.toInt = place m d b c k) :
    Host.sortBy S4x20x5000 2 comparator_i32_f32_f32_f32_f32_f32_f32_f32_d2 rows x (ix3 b c r) = x (ix3 b c (τ' m d b c r)) := by
  refine (sortBy_ix3 _ rows x b c r).trans (congrArg (fun k => x (ix3 b c k)) (congrFun (congrArg sortedFrom ?_) r))
  funext k k'
  rw [cmp_word, hrows, hrows]

/-- A column after the second sort. -/
theorem T1_cols (d : Dev nD) (b : Fin 4) (c : Fin 20) (r : Fin 5000) (f : Fin 7) :
    cols3 (T1 m d) f (ix3 b c r) = cols2 (T0 m d) f (ix3 b c (τ' m d b c r)) := by
  refine cases7 (p := fun f => cols3 (T1 m d) f (ix3 b c r) = cols2 (T0 m d) f (ix3 b c (τ' m d b c r))) ?_ ?_ ?_ ?_ ?_ ?_ ?_ f
  all_goals
    simp only [cols2, cols3, T1]
    after_reads_simp
    exact sort2 m d b c r _ _ (key2 m d b c)

/-- A column after the second sort holds the chosen rows' fields. -/
theorem T1_row (d : Dev nD) (b : Fin 4) (c : Fin 20) (r : Fin 5000) (f : Fin 7) :
    cols3 (T1 m d) f (ix3 b c r)
      = (boxes (arg m d) b c).row (keep m d b c) (σ m d b c) (τ' m d b c) (f.castLE (by decide)) r := by
  classical
  rw [T1_cols, T0, before2_cols, P_cols]
  unfold Boxes.row
  exact if_congr (P_keep m d b c _) rfl rfl

/-- A column that the third sort is given: the first 400 chosen rows of each class, one class after another. -/
theorem T2_cols (d : Dev nD) (b : Fin 4) (x : Fin (20 * 400)) (f : Fin 7) :
    cols4 (T2 m d) f (ix2 b x) = table (arg m d) (keep m d) (σ m d) (τ' m d) b (f.castLE (by decide)) x.divNat x.modNat := by
  unfold table
  rw [← T1_row]
  revert f
  refine cases7 ?_ ?_ ?_ ?_ ?_ ?_ ?_
  all_goals
    simp only [cols3, cols4, T2]
    simp only [hostOps0_19, List.drop_succ_cons, List.drop_zero]
    after_reads_at
    rfl

/-- The order of the third sort: by score, the largest first. -/
def ρ (d : Dev nD) (b : Fin 4) : Fin (20 * 400) → Fin (20 * 400) :=
  sortedFrom fun x y => decide (-table (arg m d) (keep m d) (σ m d) (τ' m d) b 1 x.divNat x.modNat
    < -table (arg m d) (keep m d) (σ m d) (τ' m d) b 1 y.divNat y.modNat)

/-- The key of the third sort. -/
theorem key3 (d : Dev nD) (b : Fin 4) (x : Fin (20 * 400)) :
    (T2 m d (Proc.devRef .tc main_v103) : Vec Ideal S4x8000 .f32) (ix2 b x)
      = -table (arg m d) (keep m d) (σ m d) (τ' m d) b 1 x.divNat x.modNat := by
  refine Eq.trans ?_ (congrArg (fun z : EReal => -z) (T2_cols m d b x 1))
  simp only [cols4, T2]
  simp only [hostOps0_19, List.drop_succ_cons, List.drop_zero]
  after_reads_at

/-- A column after the third sort is the column before it, in that order. -/
theorem sort3 (d : Dev nD) (b : Fin 4) (t : Fin (20 * 400))
    (rows : S4x8000.Idx → Ideal .f32 × Ideal .f32 × Ideal .f32 × Ideal .f32 × Ideal .f32 × Ideal .f32 × Ideal .f32 × Ideal .f32)
    (x : Vec Ideal S4x8000 .f32)
    (hrows : ∀ k, (rows (ix2 b k)).1 = -table (arg m d) (keep m d) (σ m d) (τ' m d) b 1 (Fin.divNat (m := 20) (n := 400) k) (Fin.modNat (m := 20) (n := 400) k)) :
    Host.sortBy S4x8000 1 comparator_f32_f32_f32_f32_f32_f32_f32_f32_d1 rows x (ix2 b t) = x (ix2 b (ρ m d b t)) := by
  refine (sortBy_ix2 _ rows x b t).trans (congrArg (fun k => x (ix2 b k)) (congrFun (congrArg sortedFrom ?_) t))
  funext k k'
  rw [cmp_d1, hrows, hrows]

/-- A column after the third sort. -/
theorem T3_cols (d : Dev nD) (b : Fin 4) (t : Fin (20 * 400)) (f : Fin 7) :
    cols5 (T3 m d) f (ix2 b t) = cols4 (T2 m d) f (ix2 b (ρ m d b t)) := by
  refine cases7 (p := fun f => cols5 (T3 m d) f (ix2 b t) = cols4 (T2 m d) f (ix2 b (ρ m d b t))) ?_ ?_ ?_ ?_ ?_ ?_ ?_ f
  all_goals
    simp only [cols4, cols5, T3]
    simp only [hostOps0_19, List.drop_succ_cons, List.drop_zero]
    after_reads_simp
    exact sort3 m d b t _ _ (key3 m d b)

/-- Seven columns, as a list. -/
def pieces (u : Fin 7 → Vec Ideal S4x200x1 .f32) : List ((s : Shape) × (s.Idx → Ideal .f32)) :=
  [⟨S4x200x1, u 0⟩, ⟨S4x200x1, u 1⟩, ⟨S4x200x1, u 2⟩, ⟨S4x200x1, u 3⟩, ⟨S4x200x1, u 4⟩, ⟨S4x200x1, u 5⟩, ⟨S4x200x1, u 6⟩]

/-- Seven columns side by side, at an index: the one the last coordinate names. -/
theorem concat7 (u : Fin 7 → Vec Ideal S4x200x1 .f32)
    (h : Shape.Concatenates ((pieces u).map (·.1)) S4x200x7 2) (b : Fin 4) (t : Fin 200) (f : Fin 7) :
    concatenate S4x200x7 2 (pieces u) h (ix3 b t f) = u f (ix3 b t 0) := by
  have hi : ∀ f : Fin 7, ∀ k : Fin 3, k ≠ 2 → ((ix3 b t (0 : Fin 1) : S4x200x1.Idx) k).val = ((ix3 b t f : S4x200x7.Idx) k).val := by
    intro f k hk
    match k with
    | 0 => rfl
    | 1 => rfl
    | 2 => exact absurd rfl hk
  have hp : ∀ f : Fin 7, ∀ hf, (pieces u)[(f : ℕ)]'hf = ⟨S4x200x1, u f⟩ := fun f hf =>
    cases7 (p := fun f => ∀ hf, (pieces u)[(f : ℕ)]'hf = ⟨S4x200x1, u f⟩) (fun _ => rfl) (fun _ => rfl) (fun _ => rfl) (fun _ => rfl) (fun _ => rfl)
      (fun _ => rfl) (fun _ => rfl) f hf
  have hs : ∀ f : Fin 7, ((((pieces u).take f).map (·.1)).map fun s => if h : s.rank = S4x200x7.rank then s.size ((2 : Fin 3).cast h.symm) else 0).sum = f :=
    cases7 rfl rfl rfl rfl rfl rfl rfl
  exact concatenate_apply_piece (t := S4x200x7) (2 : Fin 3) (pieces u) h (ix3 b t f) f f.isLt S4x200x1 (u f) (hp f _) rfl f (hs f) (ix3 b t 0) (hi f) rfl

/-- The seven columns of the result. -/
def cols6 (V : Valuation τ sig (Elt Ideal)) (f : Fin 7) : Vec Ideal S4x200x1 .f32 :=
  match f with
  | 0 => V (Proc.devRef .tc main_v112)
  | 1 => V (Proc.devRef .tc main_v113)
  | 2 => V (Proc.devRef .tc main_v114)
  | 3 => V (Proc.devRef .tc main_v115)
  | 4 => V (Proc.devRef .tc main_v116)
  | 5 => V (Proc.devRef .tc main_v117)
  | 6 => V (Proc.devRef .tc main_v118)

/-- A column of the result: the first 200 rows. -/
theorem T3'_cols (d : Dev nD) (b : Fin 4) (t : Fin 200) (f : Fin 7) :
    cols6 (T3' m d) f (ix3 b t 0) = cols5 (T3 m d) f (ix2 b (t.castLE (by decide))) := by
  refine cases7 (p := fun f => cols6 (T3' m d) f (ix3 b t 0) = cols5 (T3 m d) f (ix2 b (t.castLE (by decide)))) ?_ ?_ ?_ ?_ ?_ ?_ ?_ f
  all_goals
    simp only [cols5, cols6, T3']
    generalize T3 m d = V
    simp only [hostOps0_19, List.drop_succ_cons, List.drop_zero]
    after_reads_at
    rfl

/-- The result at an index: the column's value in the ordered rows. -/
theorem T4_at (d : Dev nD) (b : Fin 4) (t : Fin 200) (f : Fin 7) :
    (T4 m d (Proc.devRef .tc main_v119) : Vec Ideal S4x200x7 .f32) (ix3 b t f) = cols5 (T3 m d) f (ix2 b (t.castLE (by decide))) := by
  rw [← T3'_cols]
  unfold T4
  generalize T3' m d = V
  simp only [hostOps0_19, List.drop_succ_cons, List.drop_zero]
  exact concat7 (cols6 V) concatenates_S4x200x1_S4x200x1_S4x200x1_S4x200x1_S4x200x1_S4x200x1_S4x200x1_S4x200x7_d2 b t f

/-- The result is the answer that the three orders and the kept boxes make. -/
theorem T4_eq (d : Dev nD) (b : Fin 4) (t : Fin 200) (f : Fin 7) :
    (T4 m d (Proc.devRef .tc main_v119) : Vec Ideal S4x200x7 .f32) (ix3 b t f)
      = answer (arg m d) (keep m d) (σ m d) (τ' m d) (ρ m d) b t f := by
  rw [T4_at, T3_cols, T2_cols]
  rfl

/-- In the first sort's order a valid box comes after the boxes with larger scores and the earlier ones with its own. -/
theorem byScore (d : Dev nD) (b : Fin 4) (c : Fin 20) :
    ByScore out (boxes (arg m d) b c).conf (boxes (arg m d) b c).valid (σ m d b c) where
  above x hx := (out_neg.trans half_pos).trans hx
  le i j hij hj := by
    rcases hij.lt_or_eq with h | rfl
    · have hv : score m d b c (σ m d b c j) = (boxes (arg m d) b c).conf (σ m d b c j) := if_pos hj
      have hs := StableSort.sortedFrom_lt (key := fun k => -score m d b c k) (R := fun k k' => decide (-score m d b c k < -score m d b c k'))
        (fun _ _ => decide_eq_true_iff) i j h
      have hi : (boxes (arg m d) b c).conf (σ m d b c j) ≤ score m d b c (σ m d b c i) := by
        rw [← hv]
        rcases hs with h1 | h1
        · exact (EReal.neg_lt_neg_iff.mp h1).le
        · exact (neg_injective h1.1).ge
      have hu : score m d b c (σ m d b c i) = (boxes (arg m d) b c).conf (σ m d b c i) := by
        refine if_pos ?_
        by_contra h0
        rw [show score m d b c (σ m d b c i) = ⊥ from if_neg h0] at hi
        exact absurd (lt_of_lt_of_le hj hi) not_lt_bot
      rcases hs with h1 | h1
      · left
        rw [← hv, ← hu]
        exact EReal.neg_lt_neg_iff.mp h1
      · right
        rw [← hv, ← hu]
        exact ⟨neg_injective h1.1, h1.2.le⟩
    · exact Or.inr ⟨rfl, le_rfl⟩

/-- The kept boxes and the first two orders are as the problem has them. -/
theorem sorted (d : Dev nD) (b : Fin 4) (c : Fin 20) :
    Sorted (boxes (arg m d) b c).valid (boxes (arg m d) b c).sup (keep m d b c) (σ m d b c) (τ' m d b c) where
  keep_iff := keep_iff m d b c
  surj := sortedFrom_surjective _
  inj := sortedFrom_injective _
  tsurj := sortedFrom_surjective _
  tinj := sortedFrom_injective _
  down r s hrs hs := by
    rcases hrs.lt_or_eq with h | rfl
    · have h0 : place m d b c (τ' m d b c s) = 0 := if_pos hs
      have h1 := StableSort.sortedFrom_lt (key := place m d b c) (R := fun k k' => decide (place m d b c k < place m d b c k'))
        (fun _ _ => decide_eq_true_iff) r s h
      change place m d b c (τ' m d b c r) < place m d b c (τ' m d b c s) ∨ place m d b c (τ' m d b c r) = place m d b c (τ' m d b c s)
        ∧ τ' m d b c r < τ' m d b c s at h1
      have hk : keep m d b c (τ' m d b c r) := by
        by_contra hn
        have h2 : place m d b c (τ' m d b c r) = 1 := if_neg hn
        rw [h0, h2] at h1
        omega
      refine ⟨hk, ?_⟩
      have h2 : place m d b c (τ' m d b c r) = 0 := if_pos hk
      rw [h0, h2] at h1
      exact (h1.resolve_left (lt_irrefl _)).2.le
    · exact ⟨hs, le_rfl⟩

/-- Each image's chosen rows are ordered by score. -/
theorem rows_table (d : Dev nD) (b : Fin 4) : Table (table (arg m d) (keep m d) (σ m d) (τ' m d) b 1) (ρ m d b) where
  surj := sortedFrom_surjective _
  inj := sortedFrom_injective _
  desc c r r' h := by
    have hpos : ∀ x, keep m d b c x → 0 ≤ (boxes (arg m d) b c).conf (σ m d b c x) :=
      fun x hx => (half_pos.trans ((keep_iff m d b c x).mp hx).1).le
    have h' : (r.castLE (by decide) : Fin 5000) ≤ r'.castLE (by decide) := h
    show (boxes (arg m d) b c).row _ _ _ 1 _ ≤ (boxes (arg m d) b c).row _ _ _ 1 _
    unfold Boxes.row
    by_cases hk' : keep m d b c (τ' m d b c (r'.castLE (by decide)))
    · obtain ⟨hk, hle⟩ := (sorted m d b c).down _ _ h' hk'
      rw [if_pos hk, if_pos hk']
      rcases (byScore m d b c).le _ _ hle ((keep_iff m d b c _).mp hk').1 with h1 | h1
      · exact h1.le
      · exact h1.1.ge
    · rw [if_neg hk']
      split
      · rename_i hk
        exact hpos _ hk
      · exact le_rfl
  le i j hij c r c' r' hi hj := by
    have h := StableSort.sortedFrom_lt (n := 20 * 400)
      (key := fun x : Fin (20 * 400) => -table (arg m d) (keep m d) (σ m d) (τ' m d) b 1 x.divNat x.modNat)
      (R := fun x y : Fin (20 * 400) => decide (-table (arg m d) (keep m d) (σ m d) (τ' m d) b 1 x.divNat x.modNat
        < -table (arg m d) (keep m d) (σ m d) (τ' m d) b 1 y.divNat y.modNat)) (fun _ _ => decide_eq_true_iff) i j hij
    rw [show sortedFrom _ i = ρ m d b i from rfl, show sortedFrom _ j = ρ m d b j from rfl, hi, hj] at h
    have hd : ∀ (c : Fin 20) (r : Fin 400), (flat 400 c r).divNat = c ∧ (flat 400 c r).modNat = r := by
      intro c r
      have hv : (flat 400 c r : ℕ) = c * 400 + r := rfl
      have := r.isLt
      constructor
      · apply Fin.ext
        show (flat 400 c r : ℕ) / 400 = c
        omega
      · apply Fin.ext
        show (flat 400 c r : ℕ) % 400 = r
        omega
    simp only [(hd _ _).1, (hd _ _).2] at h
    rcases h with h | h
    · exact Or.inl (EReal.neg_lt_neg_iff.mp h)
    · exact Or.inr ⟨neg_injective h.1, h.2⟩

/-- The reference's kept boxes and orders are the problem's. -/
theorem solution (d : Dev nD) : Solution (arg m d) (keep m d) (σ m d) (τ' m d) (ρ m d) :=
  ⟨sorted m d, byScore m d, rows_table m d⟩

end Cert.Proof.Reference

end
-- ==== Proof.ReferenceRun.lean ====
/-
  The reference's run: its result and its frame.
-/
module

public import proofs.«01_k».proof.Proof.ReferenceEnd
public import Idealize.ShloMosaic.Lib.Quiescent

@[expose] public section

noncomputable section

namespace Cert.Proof.Reference

open Cert.ReferenceIdeal Cert.ReferenceIdeal.Gen Cert.ReferenceIdeal.Value
open Idealize.ShloMosaic Idealize.ShloMosaic.Tactic Idealize.ShloMosaic.TcCoe
open Idealize.ShloMosaic.StableHlo
open Idealize.SL.Sem
open Cert.Proof.Spec

variable (m : (ℓ : Loc nD τ sig) → Buf (Elt Ideal) ℓ) (g : Dev nD → PrngReg)

/-- The operations before the second sort leave the argument. -/
theorem before2_arg (V : Valuation τ sig (Elt Ideal)) : before2 V (Proc.devRef .tc main_arg0) = V (Proc.devRef .tc main_arg0) := by
  unfold before2
  after_reads_simp

/-- The last operations leave the argument. -/
theorem last_arg (V : Valuation τ sig (Elt Ideal)) : after hostOps0_19 V (Proc.devRef .tc main_arg0) = V (Proc.devRef .tc main_arg0) := by
  after_reads_simp

/-- The operations before the loop leave the argument. -/
theorem entry_arg (d : Dev nD) : entryContents preI m d (Proc.devRef .tc main_arg0) = m (d.tc.loc main_arg0) := by
  show after hostOps0_4 (after hostOps0_3 (after hostOps0_2 (after hostOps0_1 (after hostOps0 fun b => m (d, b))))) (Proc.devRef .tc main_arg0) = _
  rw [after_of_writes_sub hostOps0_4 _ hostOps0_4_writes (by decide), after_of_writes_sub hostOps0_3 _ hostOps0_3_writes (by decide),
    after_of_writes_sub hostOps0_2 _ hostOps0_2_writes (by decide), after_of_writes_sub hostOps0_1 _ hostOps0_1_writes (by decide),
    after_of_writes_sub hostOps0 _ hostOps0_writes (by decide)]

/-- At the end the argument is as it was. -/
theorem final_arg (d : Dev nD) :
    finalContents condOps preI bodyI postI 5000 m d (Proc.devRef .tc main_arg0) = m (d.tc.loc main_arg0) := by
  show after hostOps0_19 (before2 (P m d)) (Proc.devRef .tc main_arg0) = _
  rw [last_arg, before2_arg, P_kept m d main_arg0 (by decide) (by decide) (by decide) (by decide) (by decide) (by decide) (by decide) (by decide),
    entry_arg]

/-- The program ends with its argument unchanged and every counter at zero. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c main_arg0 (by decide)).trans (final_arg m c), sem_eq_zero_of_no_sems (by decide) r.2⟩)
    (run_fold m g)

/-- The program ends with its result at the final contents, and its argument unchanged. -/
theorem run_value : θ_run (defs (F := Ideal)) (onTc (τ := τ) (main (F := Ideal))) ⟨m, fun _ => 0, g⟩ (fun r => ∀ c : Dev nD,
      r.2.mem ((c.tc : Thread nD τ).loc main_v119) = T4 m c (Proc.devRef .tc main_v119)
      ∧ r.2.mem ((c.tc : Thread nD τ).loc main_arg0) = m ((c.tc : Thread nD τ).loc main_arg0)) :=
  (θ_run defs _ _).mono (fun r h c => ⟨(h c main_v119 (by decide)).trans (congrFun (final_eq m c) _),
    (h c main_arg0 (by decide)).trans (final_arg m c)⟩) (run_fold m g)

end Cert.Proof.Reference

end
-- ==== Proof.lean ====
/-
  The certificate: each program's frame, and the kernel's result equal to the reference's.
-/
module

public import proofs.«01_k».proof.Defs
public import proofs.«01_k».proof.Proof.KernelRun
public import proofs.«01_k».proof.Proof.KernelIdealValue
public import proofs.«01_k».proof.Proof.ReferenceRun

@[expose] public section

noncomputable section

namespace Cert.Proof

open Idealize.ShloMosaic Idealize.ShloMosaic.TcCoe Idealize.SL.Sem
open Cert.Proof.Spec

/-- From memories that agree on the argument, the two programs' results are equal: both are the problem's answer, which the
    kernel has for any choice of boxes and orders that satisfies the problem's rules, so for the reference's own. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Reference.T4 m' c (Proc.devRef .tc Cert.ReferenceIdeal.main_v119) : Vec Ideal ⟨3, ![4, 200, 7]⟩ .f32) = KernelIdeal.result m c := by
  have ha : Reference.arg m' c = KernelIdeal.arg m c := by
    funext b l j
    exact congrFun h (ix3 b l j)
  have hS : Solution (KernelIdeal.arg m c) (Reference.keep m' c) (Reference.σ m' c) (Reference.τ' m' c) (Reference.ρ m' c) :=
    ha ▸ Reference.solution m' c
  funext i
  obtain ⟨b, t, f, rfl⟩ : ∃ (b : Fin 4) (t : Fin 200) (f : Fin 7), i = ix3 b t f := ⟨i 0, i 1, i 2, eq_ix3 i⟩
  refine (Reference.T4_eq m' c b t f).trans ?_
  rw [ha]
  exact (KernelIdeal.result_eq m c hS b t f).symm

/-- The certificate. -/
theorem claim : Cert.Claim :=
  ⟨Cert.Kernel.Gen.facts, Cert.KernelIdeal.Gen.facts, Cert.ReferenceIdeal.Gen.facts,
    fun m g _ => Kernel.frame m g,
    fun m g _ => KernelIdeal.frame m g,
    fun m g _ => Reference.frame m g,
    trivial,
    fun m g m' g' _ h => ⟨fun c => KernelIdeal.result m c, KernelIdeal.run_value m g,
      (θ_run _ _ _).mono (fun _ hr c => ⟨(hr c).1.trans (result_eq m m' c (h c)), (hr c).2⟩) (Reference.run_value m' g')⟩⟩

end Cert.Proof

end
